-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_lse_finite [hPre_lse_finite : Cert.Pre_lse_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_lse_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_lse_finite [hPre_lse_finite : Cert.Pre_lse_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_lse_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_qk_finite [hPre_qk_finite : Cert.Pre_qk_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_qk_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_qk_finite [hPre_qk_finite : Cert.Pre_qk_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_qk_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_lse_finite [hKernel4Ideal : Cert.Kernel4Ideal.Facts] [hPre_lse_finite : Cert.Pre_lse_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_lse_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_lse_finite [hReference4Ideal : Cert.Reference4Ideal.Facts] [hPre_lse_finite : Cert.Pre_lse_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_lse_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_qk_finite [hKernel5Ideal : Cert.Kernel5Ideal.Facts] [hPre_qk_finite : Cert.Pre_qk_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_qk_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_qk_finite [hReference5Ideal : Cert.Reference5Ideal.Facts] [hPre_qk_finite : Cert.Pre_qk_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_qk_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_lse_finite [hKernel4Ideal : Cert.Kernel4Ideal.Facts] [hReference4Ideal : Cert.Reference4Ideal.Facts] [hPre_lse_finite : Cert.Pre_lse_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_lse_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_pre_qk_finite [hKernel5Ideal : Cert.Kernel5Ideal.Facts] [hReference5Ideal : Cert.Reference5Ideal.Facts] [hPre_qk_finite : Cert.Pre_qk_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_qk_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v90_0)) (v1 : (c : Dev Cert.Kernel5Ideal.nD) → Buf (Elt Ideal) ((c.tc : Thread Cert.Kernel5Ideal.nD Cert.Kernel5Ideal.τ).loc Cert.Kernel5Ideal.main_v90_1)) (v2 : (c : Dev Cert.Kernel5Ideal.nD) → Buf (Elt Ideal) ((c.tc : Thread Cert.Kernel5Ideal.nD Cert.Kernel5Ideal.τ).loc Cert.Kernel5Ideal.main_v90_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v90_0) = v0 c
          ∧ r.2.mem ((c.tc : Thread Cert.Kernel5Ideal.nD Cert.Kernel5Ideal.τ).loc Cert.Kernel5Ideal.main_v90_1) = v1 c
          ∧ r.2.mem ((c.tc : Thread Cert.Kernel5Ideal.nD Cert.Kernel5Ideal.τ).loc Cert.Kernel5Ideal.main_v90_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_lse_finite : Cert.Pre_lse_finite.Facts) (hPre_qk_finite : Cert.Pre_qk_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_lse_finite (hKernel4Ideal := hKernel4Ideal) (hPre_lse_finite := hPre_lse_finite)
    ∧ quiescent_Reference4Ideal (hReference4Ideal := hReference4Ideal)
    ∧ quiescent_Reference4Ideal_pre_lse_finite (hReference4Ideal := hReference4Ideal) (hPre_lse_finite := hPre_lse_finite)
    ∧ quiescent_Kernel5 (hKernel5 := hKernel5)
    ∧ quiescent_Kernel5Ideal (hKernel5Ideal := hKernel5Ideal)
    ∧ quiescent_Kernel5Ideal_pre_qk_finite (hKernel5Ideal := hKernel5Ideal) (hPre_qk_finite := hPre_qk_finite)
    ∧ quiescent_Reference5Ideal (hReference5Ideal := hReference5Ideal)
    ∧ quiescent_Reference5Ideal_pre_qk_finite (hReference5Ideal := hReference5Ideal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_lse_finite (hKernel4Ideal := hKernel4Ideal) (hReference4Ideal := hReference4Ideal) (hPre_lse_finite := hPre_lse_finite)
    ∧ preserves_Kernel5_Kernel5Ideal
    ∧ algebraic_Kernel5Ideal_Reference5Ideal_pre_qk_finite (hKernel5Ideal := hKernel5Ideal) (hReference5Ideal := hReference5Ideal) (hPre_qk_finite := hPre_qk_finite)
-- ==== Pre_lse_finite.lean ====
abbrev S32768x1024 : Shape := ⟨2, ![32768, 1024]⟩
abbrev S32768x512 : Shape := ⟨2, ![32768, 512]⟩
abbrev S64x1x512x256 : Shape := ⟨4, ![64, 1, 512, 256]⟩
abbrev S64x4x128x256 : Shape := ⟨4, ![64, 4, 128, 256]⟩
abbrev S64x16x32x256 : Shape := ⟨4, ![64, 16, 32, 256]⟩
abbrev S32768x3072 : Shape := ⟨2, ![32768, 3072]⟩
abbrev S512x1024 : Shape := ⟨2, ![512, 1024]⟩
abbrev S256x1024 : Shape := ⟨2, ![256, 1024]⟩
abbrev S1024x1024 : Shape := ⟨2, ![1024, 1024]⟩
abbrev S64x512x1x256 : Shape := ⟨4, ![64, 512, 1, 256]⟩
abbrev S32768x256 : Shape := ⟨2, ![32768, 256]⟩
abbrev S_ : Shape := ⟨0, ![]⟩
abbrev S64x128x4x256 : Shape := ⟨4, ![64, 128, 4, 256]⟩
abbrev S64x32x16x256 : Shape := ⟨4, ![64, 32, 16, 256]⟩

class Facts : Prop where
  transposes_S64x1x512x256_S64x512x1x256_0_2_1_3 : S64x1x512x256.Transposes [0, 2, 1, 3] S64x512x1x256
  shapeCasts_S64x512x1x256_S32768x256 : S64x512x1x256.ShapeCasts S32768x256
  bcast_S_S32768x256 : S_.BroadcastsInDim S32768x256 (![] : Fin 0 → Fin S32768x256.rank)
  transposes_S64x4x128x256_S64x128x4x256_0_2_1_3 : S64x4x128x256.Transposes [0, 2, 1, 3] S64x128x4x256
  shapeCasts_S64x128x4x256_S32768x256 : S64x128x4x256.ShapeCasts S32768x256
  transposes_S64x16x32x256_S64x32x16x256_0_2_1_3 : S64x16x32x256.Transposes [0, 2, 1, 3] S64x32x16x256
  shapeCasts_S64x32x16x256_S32768x256 : S64x32x16x256.ShapeCasts S32768x256

variable [Facts]

def fn {F : FTy → Type} [FloatOps F] (main_arg0 : FVec F S32768x1024 .f32) (main_arg1 : FVec F S32768x512 .bf16) (main_arg2 : FVec F S32768x512 .bf16) (main_arg3 : FVec F S64x1x512x256 .f32) (main_arg4 : FVec F S64x1x512x256 .f32) (main_arg5 : FVec F S64x4x128x256 .f32) (main_arg6 : FVec F S64x4x128x256 .f32) (main_arg7 : FVec F S64x16x32x256 .f32) (main_arg8 : FVec F S64x16x32x256 .f32) (main_arg9 : FVec F S32768x3072 .bf16) (main_arg10 : FVec F S512x1024 .f32) (main_arg11 : FVec F S512x1024 .f32) (main_arg12 : FVec F S256x1024 .f32) (main_arg13 : FVec F S1024x1024 .f32) : IVec S32768x256 1 :=
  let main_v0 : FVec F S64x512x1x256 .f32 := (transpose S64x512x1x256 [0, 2, 1, 3] · transposes_S64x1x512x256_S64x512x1x256_0_2_1_3) main_arg4
  let main_v1 : FVec F S32768x256 .f32 := shapeCast S32768x256 main_v0 shapeCasts_S64x512x1x256_S32768x256
  let main_v2 : FVec F S32768x256 .f32 := Host.absf main_v1
  let main_cst : FVec F S_ .f32 := constant S_ .f32 0x7F800000#32
  let main_v3 : FVec F S32768x256 .f32 := broadcastInDim S32768x256 ![] bcast_S_S32768x256 main_cst
  let main_v4 : IVec S32768x256 1 := cmpf .olt main_v2 main_v3
  let main_v5 : FVec F S64x128x4x256 .f32 := (transpose S64x128x4x256 [0, 2, 1, 3] · transposes_S64x4x128x256_S64x128x4x256_0_2_1_3) main_arg6
  let main_v6 : FVec F S32768x256 .f32 := shapeCast S32768x256 main_v5 shapeCasts_S64x128x4x256_S32768x256
  let main_v7 : FVec F S32768x256 .f32 := Host.absf main_v6
  let main_cst_0 : FVec F S_ .f32 := constant S_ .f32 0x7F800000#32
  let main_v8 : FVec F S32768x256 .f32 := broadcastInDim S32768x256 ![] bcast_S_S32768x256 main_cst_0
  let main_v9 : IVec S32768x256 1 := cmpf .olt main_v7 main_v8
  let main_v10 : FVec F S64x32x16x256 .f32 := (transpose S64x32x16x256 [0, 2, 1, 3] · transposes_S64x16x32x256_S64x32x16x256_0_2_1_3) main_arg8
  let main_v11 : FVec F S32768x256 .f32 := shapeCast S32768x256 main_v10 shapeCasts_S64x32x16x256_S32768x256
  let main_v12 : FVec F S32768x256 .f32 := Host.absf main_v11
  let main_cst_1 : FVec F S_ .f32 := constant S_ .f32 0x7F800000#32
  let main_v13 : FVec F S32768x256 .f32 := broadcastInDim S32768x256 ![] bcast_S_S32768x256 main_cst_1
  let main_v14 : IVec S32768x256 1 := cmpf .olt main_v12 main_v13
  let main_v15 : IVec S32768x256 1 := andi main_v4 main_v9
  let main_v16 : IVec S32768x256 1 := andi main_v15 main_v14
  main_v16
-- ==== Pre_qk_finite.lean ====
abbrev S32768x1024 : Shape := ⟨2, ![32768, 1024]⟩
abbrev S1024 : Shape := ⟨1, ![1024]⟩
abbrev S1024x7644 : Shape := ⟨2, ![1024, 7644]⟩
abbrev S6x64 : Shape := ⟨2, ![6, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7644 : Shape := ⟨2, ![32768, 7644]⟩
abbrev S32768x1536 : Shape := ⟨2, ![32768, 1536]⟩

class Facts : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x7644_S32768x1536_0_2268 : S32768x7644.Slices ![0, 2268] S32768x1536
  bcast_S_S32768x1536 : S_.BroadcastsInDim S32768x1536 (![] : Fin 0 → Fin S32768x1536.rank)
  dot_S32768x1024_S1024x7644_S32768x7644_1_0_0_1_n_n_wf : DotDims.WF S32768x1024 S1024x7644 S32768x7644 [1] [0] [0] [1] [] []

variable [Facts]

def dot_S32768x1024_S1024x7644_S32768x7644_1_0_0_1_n_n : DotDims S32768x1024 S1024x7644 S32768x7644 where
  lhsContracting := [1]
  rhsContracting := [0]
  lhsNonContracting := [0]
  rhsNonContracting := [1]
  lhsBatch := []
  rhsBatch := []
  wf := dot_S32768x1024_S1024x7644_S32768x7644_1_0_0_1_n_n_wf
def fn {F : FTy → Type} [FloatOps F] (main_arg0 : FVec F S32768x1024 .f32) (main_arg1 : FVec F S1024 .f32) (main_arg2 : FVec F S1024x7644 .f32) (main_arg3 : FVec F S6x64 .f32) : IVec S32768x1536 1 :=
  let main_v0 : FVec F S32768x1024 .f32 := mulf main_arg0 main_arg0
  let main_cst : FVec F S_ .f32 := constant S_ .f32 0x00000000#32
  let main_v1 : FVec F S32768 .f32 := (fun x v => Host.reduceAdd x v reducesTo_S32768x1024_S32768_d1 h_S_) main_v0 main_cst
  let main_v2 : FVec F S32768x1 .f32 := broadcastInDim S32768x1 ![0] bcast_S32768_S32768x1_0 main_v1
  let main_cst_0 : FVec F S_ .f32 := constant S_ .f32 0x44800000#32
  let main_v3 : FVec F S32768x1 .f32 := broadcastInDim S32768x1 ![] bcast_S_S32768x1 main_cst_0
  let main_v4 : FVec F S32768x1 .f32 := Host.divf main_v2 main_v3
  let main_cst_1 : FVec F S_ .f32 := constant S_ .f32 0x358637BD#32
  let main_v5 : FVec F S32768x1 .f32 := broadcastInDim S32768x1 ![] bcast_S_S32768x1 main_cst_1
  let main_v6 : FVec F S32768x1 .f32 := addf main_v4 main_v5
  let main_v7 : FVec F S32768x1 .f32 := Host.rsqrt main_v6
  let main_v8 : FVec F S32768x1024 .f32 := broadcastInDim S32768x1024 ![0, 1] bcast_S32768x1_S32768x1024_0_1 main_v7
  let main_v9 : FVec F S32768x1024 .f32 := mulf main_arg0 main_v8
  let main_v10 : FVec F S1x1024 .f32 := broadcastInDim S1x1024 ![1] bcast_S1024_S1x1024_1 main_arg1
  let main_v11 : FVec F S32768x1024 .f32 := broadcastInDim S32768x1024 ![0, 1] bcast_S1x1024_S32768x1024_0_1 main_v10
  let main_v12 : FVec F S32768x1024 .f32 := mulf main_v9 main_v11
  let main_v13 : FVec F S32768x7644 .f32 := (fun l r => Host.dotGeneral dot_S32768x1024_S1024x7644_S32768x7644_1_0_0_1_n_n none l r) main_v12 main_arg2
  let main_v14 : FVec F S32768x1536 .f32 := (extractStridedSlice S32768x1536 ![0, 2268] · slices_S32768x7644_S32768x1536_0_2268) main_v13
  let main_v15 : FVec F S32768x1536 .f32 := Host.absf main_v14
  let main_cst_2 : FVec F S_ .f32 := constant S_ .f32 0x7F800000#32
  let main_v16 : FVec F S32768x1536 .f32 := broadcastInDim S32768x1536 ![] bcast_S_S32768x1536 main_cst_2
  let main_v17 : IVec S32768x1536 1 := cmpf .olt main_v15 main_v16
  main_v17
-- ==== Kernel.lean ====
abbrev S32768x256 : Shape := ⟨2, ![32768, 256]⟩
abbrev S8x32768 : Shape := ⟨2, ![8, 32768]⟩
abbrev S32768x128 : Shape := ⟨2, ![32768, 128]⟩
abbrev S32768x512 : Shape := ⟨2, ![32768, 512]⟩
abbrev S256x128x128 : Shape := ⟨3, ![256, 128, 128]⟩
abbrev S112x128x128 : Shape := ⟨3, ![112, 128, 128]⟩
abbrev S512x256 : Shape := ⟨2, ![512, 256]⟩
abbrev S8x512 : Shape := ⟨2, ![8, 512]⟩
abbrev S4096x128 : Shape := ⟨2, ![4096, 128]⟩
abbrev S512x512 : Shape := ⟨2, ![512, 512]⟩
abbrev S32x128x128 : Shape := ⟨3, ![32, 128, 128]⟩
abbrev S32x128x512 : Shape := ⟨3, ![32, 128, 512]⟩
abbrev S2048x64 : Shape := ⟨2, ![2048, 64]⟩
abbrev S4x1024x64 : Shape := ⟨3, ![4, 1024, 64]⟩
abbrev S4x8x1024 : Shape := ⟨3, ![4, 8, 1024]⟩
abbrev S4x128x1024 : Shape := ⟨3, ![4, 128, 1024]⟩
abbrev S128x512 : Shape := ⟨2, ![128, 512]⟩
abbrev S512x64 : Shape := ⟨2, ![512, 64]⟩
abbrev S512x2048 : Shape := ⟨2, ![512, 2048]⟩
abbrev S1x512 : Shape := ⟨2, ![1, 512]⟩
abbrev S1x128x512 : Shape := ⟨3, ![1, 128, 512]⟩
abbrev S16x512 : Shape := ⟨2, ![16, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1x512x64 : Shape := ⟨3, ![1, 512, 64]⟩
abbrev S128x1024 : Shape := ⟨2, ![128, 1024]⟩
abbrev S1x128x128 : Shape := ⟨3, ![1, 128, 128]⟩
abbrev S128x128 : Shape := ⟨2, ![128, 128]⟩
abbrev S1x1024x64 : Shape := ⟨3, ![1, 1024, 64]⟩
abbrev S1024x64 : Shape := ⟨2, ![1024, 64]⟩
abbrev S512x1024 : Shape := ⟨2, ![512, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩
abbrev S1x128x1024 : Shape := ⟨3, ![1, 128, 1024]⟩
abbrev S64x512 : Shape := ⟨2, ![64, 512]⟩

abbrev nBuf : Space → Nat
  | .hbm => 8
  | .vmem => 21
  | .smem => 0
  | _ => 0

abbrev bufTy : (tb : Table) → Fin (tcTables nBuf tb) → BufTy
  | .hbm, ⟨0, _⟩ => ⟨S32768x256, .bf16⟩
  | .hbm, ⟨1, _⟩ => ⟨S8x32768, .f32⟩
  | .hbm, ⟨2, _⟩ => ⟨S32768x128, .bf16⟩
  | .hbm, ⟨3, _⟩ => ⟨S32768x512, .bf16⟩
  | .hbm, ⟨4, _⟩ => ⟨S32768x128, .bf16⟩
  | .hbm, ⟨5, _⟩ => ⟨S256x128x128, .bf16⟩
  | .hbm, ⟨6, _⟩ => ⟨S112x128x128, .f32⟩
  | .hbm, ⟨7, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S8x512, .f32⟩
  | .local _ .vmem, ⟨3, _⟩ => ⟨S8x512, .f32⟩
  | .local _ .vmem, ⟨4, _⟩ => ⟨S4096x128, .bf16⟩
  | .local _ .vmem, ⟨5, _⟩ => ⟨S4096x128, .bf16⟩
  | .local _ .vmem, ⟨6, _⟩ => ⟨S512x512, .bf16⟩
  | .local _ .vmem, ⟨7, _⟩ => ⟨S512x512, .bf16⟩
  | .local _ .vmem, ⟨8, _⟩ => ⟨S4096x128, .bf16⟩
  | .local _ .vmem, ⟨9, _⟩ => ⟨S4096x128, .bf16⟩
  | .local _ .vmem, ⟨10, _⟩ => ⟨S32x128x128, .bf16⟩
  | .local _ .vmem, ⟨11, _⟩ => ⟨S32x128x128, .bf16⟩
  | .local _ .vmem, ⟨12, _⟩ => ⟨S112x128x128, .f32⟩
  | .local _ .vmem, ⟨13, _⟩ => ⟨S512x512, .bf16⟩
  | .local _ .vmem, ⟨14, _⟩ => ⟨S512x512, .bf16⟩
  | .local _ .vmem, ⟨15, _⟩ => ⟨S32x128x512, .i32⟩
  | .local _ .vmem, ⟨16, _⟩ => ⟨S32x128x512, .i16⟩
  | .local _ .vmem, ⟨17, _⟩ => ⟨S2048x64, .bf16⟩
  | .local _ .vmem, ⟨18, _⟩ => ⟨S4x1024x64, .bf16⟩
  | .local _ .vmem, ⟨19, _⟩ => ⟨S4x8x1024, .f32⟩
  | .local _ .vmem, ⟨20, _⟩ => ⟨S4x128x1024, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 8], ![false, false]⟩

@[reducible] def k0_t1_loop (i : grid0.Coords) : Scf.Loop 32 :=
  let c0_i32_20 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v43 : BitVec 32 := Scalar.subi v20 c0_i32_20
  let c1_i32_21 : BitVec 32 := 1#32
  let v45 : BitVec 32 := Scalar.divsi v43 c1_i32_21
  let v46 : BitVec 32 := Scalar.muli v45 c1_i32_21
  let v47 : BitVec 32 := Scalar.addi c0_i32_20 v46
  let c1_i32_22 : BitVec 32 := 1#32
  ⟨c0_i32_20, v47, c1_i32_22⟩
def k0_mult1 (i : grid0.Coords) (k0_t1 : Fin (k0_t1_loop i).trips) : BitVec 32 :=
  let c0_i32_20 : BitVec 32 := 0#32
  let c1_i32_22 : BitVec 32 := 1#32
  let arg16 : BitVec 32 := Scf.iv c0_i32_20 c1_i32_22 k0_t1
  let c512_i32_126 : BitVec 32 := 512#32
  let v213 : BitVec 32 := Scalar.muli arg16 c512_i32_126
  v213
def k0_off1 (i : grid0.Coords) (k0_t1 : Fin (k0_t1_loop i).trips) : Fin 2 → Nat :=
  let c0_i32_20 : BitVec 32 := 0#32
  let c1_i32_22 : BitVec 32 := 1#32
  let arg16 : BitVec 32 := Scf.iv c0_i32_20 c1_i32_22 k0_t1
  let c512_i32_126 : BitVec 32 := 512#32
  let v213 : BitVec 32 := Scalar.muli arg16 c512_i32_126
  let v214 : BitVec 32 := v213
  let v215 : Index := Scalar.indexCast v214
  let c0_127 : Index := 0#32
  ![v215.toNat, 0]
def k0_off2 (i : grid0.Coords) (k0_t1 : Fin (k0_t1_loop i).trips) (c0_i32_138 : BitVec 32) : Fin 3 → Nat :=
  let c0_i32_20 : BitVec 32 := 0#32
  let c1_i32_22 : BitVec 32 := 1#32
  let arg16 : BitVec 32 := Scf.iv c0_i32_20 c1_i32_22 k0_t1
  let c4_i32_137 : BitVec 32 := 4#32
  let v256 : BitVec 32 := Scalar.muli arg16 c4_i32_137
  let v257 : BitVec 32 := Scalar.addi v256 c0_i32_138
  let v271 : Index := Scalar.indexCast v257
  let c0_141 : Index := 0#32
  let c0_142 : Index := 0#32
  ![v271.toNat, 0, 0]
@[reducible] def k0_t2_loop (i : grid0.Coords) : Scf.Loop 32 :=
  let c0_i32_20 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v43 : BitVec 32 := Scalar.subi v20 c0_i32_20
  let c1_i32_21 : BitVec 32 := 1#32
  let v45 : BitVec 32 := Scalar.divsi v43 c1_i32_21
  let v46 : BitVec 32 := Scalar.muli v45 c1_i32_21
  let v47 : BitVec 32 := Scalar.addi c0_i32_20 v46
  let v44 : BitVec 32 := Scalar.addi c0_i32_20 v43
  let c1_i32_23 : BitVec 32 := 1#32
  ⟨v47, v44, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v43 : BitVec 32 := Scalar.subi v20 c0_i32_20
  let c1_i32_21 : BitVec 32 := 1#32
  let v45 : BitVec 32 := Scalar.divsi v43 c1_i32_21
  let v46 : BitVec 32 := Scalar.muli v45 c1_i32_21
  let v47 : BitVec 32 := Scalar.addi c0_i32_20 v46
  let c1_i32_23 : BitVec 32 := 1#32
  let arg16 : BitVec 32 := Scf.iv v47 c1_i32_23 k0_t2
  let c512_i32_126 : BitVec 32 := 512#32
  let v213 : BitVec 32 := Scalar.muli arg16 c512_i32_126
  v213
def k0_off3 (i : grid0.Coords) (k0_t2 : Fin (k0_t2_loop i).trips) : Fin 2 → Nat :=
  let c0_i32_20 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v43 : BitVec 32 := Scalar.subi v20 c0_i32_20
  let c1_i32_21 : BitVec 32 := 1#32
  let v45 : BitVec 32 := Scalar.divsi v43 c1_i32_21
  let v46 : BitVec 32 := Scalar.muli v45 c1_i32_21
  let v47 : BitVec 32 := Scalar.addi c0_i32_20 v46
  let c1_i32_23 : BitVec 32 := 1#32
  let arg16 : BitVec 32 := Scf.iv v47 c1_i32_23 k0_t2
  let c512_i32_126 : BitVec 32 := 512#32
  let v213 : BitVec 32 := Scalar.muli arg16 c512_i32_126
  let v214 : BitVec 32 := v213
  let v215 : Index := Scalar.indexCast v214
  let c0_127 : Index := 0#32
  ![v215.toNat, 0]
def k0_off4 (i : grid0.Coords) (k0_t2 : Fin (k0_t2_loop i).trips) (c0_i32_138 : BitVec 32) : Fin 3 → Nat :=
  let c0_i32_20 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v43 : BitVec 32 := Scalar.subi v20 c0_i32_20
  let c1_i32_21 : BitVec 32 := 1#32
  let v45 : BitVec 32 := Scalar.divsi v43 c1_i32_21
  let v46 : BitVec 32 := Scalar.muli v45 c1_i32_21
  let v47 : BitVec 32 := Scalar.addi c0_i32_20 v46
  let c1_i32_23 : BitVec 32 := 1#32
  let arg16 : BitVec 32 := Scf.iv v47 c1_i32_23 k0_t2
  let c4_i32_137 : BitVec 32 := 4#32
  let v256 : BitVec 32 := Scalar.muli arg16 c4_i32_137
  let v257 : BitVec 32 := Scalar.addi v256 c0_i32_138
  let v271 : Index := Scalar.indexCast v257
  let c0_141 : Index := 0#32
  let c0_142 : Index := 0#32
  ![v271.toNat, 0, 0]
def k0_cond1 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c0_i32_27 : BitVec 32 := 0#32
  let v52 : BitVec 1 := Scalar.cmpi .ne v51 c0_i32_27
  v52

def k0_cond2 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c0_i32_127 : BitVec 32 := 0#32
  let v214 : BitVec 1 := Scalar.cmpi .ne v213 c0_i32_127
  v214

def k0_cond3 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c1_i32_128 : BitVec 32 := 1#32
  let v216 : BitVec 32 := Scalar.subi v213 c1_i32_128
  let c0_i32_129 : BitVec 32 := 0#32
  let v217 : BitVec 1 := Scalar.cmpi .ne v216 c0_i32_129
  v217

def k0_cond4 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c1_i32_128 : BitVec 32 := 1#32
  let v216 : BitVec 32 := Scalar.subi v213 c1_i32_128
  let c1_i32_130 : BitVec 32 := 1#32
  let v219 : BitVec 32 := Scalar.subi v216 c1_i32_130
  let c0_i32_131 : BitVec 32 := 0#32
  let v220 : BitVec 1 := Scalar.cmpi .ne v219 c0_i32_131
  v220

def k0_cond5 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c0_i32_133 : BitVec 32 := 0#32
  let v223 : BitVec 1 := Scalar.cmpi .ne v222 c0_i32_133
  v223

def k0_cond6 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c1_i32_134 : BitVec 32 := 1#32
  let v225 : BitVec 32 := Scalar.subi v222 c1_i32_134
  let c0_i32_135 : BitVec 32 := 0#32
  let v226 : BitVec 1 := Scalar.cmpi .ne v225 c0_i32_135
  v226

def k0_cond7 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_25 : BitVec 32 := 1#32
  let v49 : BitVec 32 := Scalar.subi v20 c1_i32_25
  let c0_i32_26 : BitVec 32 := 0#32
  let v50 : BitVec 32 := Scalar.maxsi v49 c0_i32_26
  let c7_i32 : BitVec 32 := 7#32
  let v51 : BitVec 32 := Scalar.minsi v50 c7_i32
  let c1_i32_126 : BitVec 32 := 1#32
  let v213 : BitVec 32 := Scalar.subi v51 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c1_i32_134 : BitVec 32 := 1#32
  let v225 : BitVec 32 := Scalar.subi v222 c1_i32_134
  let c1_i32_136 : BitVec 32 := 1#32
  let v228 : BitVec 32 := Scalar.subi v225 c1_i32_136
  let c0_i32_137 : BitVec 32 := 0#32
  let v229 : BitVec 1 := Scalar.cmpi .ne v228 c0_i32_137
  v229

@[reducible] def k0_t3_loop : Scf.Loop 32 :=
  let c0_i32_138 : BitVec 32 := 0#32
  let c16_i32 : BitVec 32 := 16#32
  let v231 : BitVec 32 := Scalar.addi c0_i32_138 c16_i32
  let c1_i32_139 : BitVec 32 := 1#32
  ⟨c0_i32_138, v231, c1_i32_139⟩
@[reducible] def k0_t4_loop : Scf.Loop 32 :=
  let c0_i32_138 : BitVec 32 := 0#32
  let c16_i32 : BitVec 32 := 16#32
  let v231 : BitVec 32 := Scalar.addi c0_i32_138 c16_i32
  let c1_i32_139 : BitVec 32 := 1#32
  ⟨c0_i32_138, v231, c1_i32_139⟩
@[reducible] def k0_t5_loop : Scf.Loop 32 :=
  let c0_i32_136 : BitVec 32 := 0#32
  let c16_i32 : BitVec 32 := 16#32
  let v228 : BitVec 32 := Scalar.addi c0_i32_136 c16_i32
  let c1_i32_137 : BitVec 32 := 1#32
  ⟨c0_i32_136, v228, c1_i32_137⟩
@[reducible] def k0_t6_loop : Scf.Loop 32 :=
  let c0_i32_134 : BitVec 32 := 0#32
  let c16_i32 : BitVec 32 := 16#32
  let v225 : BitVec 32 := Scalar.addi c0_i32_134 c16_i32
  let c1_i32_135 : BitVec 32 := 1#32
  ⟨c0_i32_134, v225, c1_i32_135⟩
@[reducible] def k0_t7_loop : Scf.Loop 32 :=
  let c0_i32_132 : BitVec 32 := 0#32
  let c16_i32 : BitVec 32 := 16#32
  let v222 : BitVec 32 := Scalar.addi c0_i32_132 c16_i32
  let c1_i32_133 : BitVec 32 := 1#32
  ⟨c0_i32_132, v222, c1_i32_133⟩
@[reducible] def k0_t8_loop : Scf.Loop 32 :=
  let c0_i32_130 : BitVec 32 := 0#32
  let c16_i32 : BitVec 32 := 16#32
  let v219 : BitVec 32 := Scalar.addi c0_i32_130 c16_i32
  let c1_i32_131 : BitVec 32 := 1#32
  ⟨c0_i32_130, v219, c1_i32_131⟩
@[reducible] def k0_t9_loop : Scf.Loop 32 :=
  let c0_i32_128 : BitVec 32 := 0#32
  let c16_i32 : BitVec 32 := 16#32
  let v216 : BitVec 32 := Scalar.addi c0_i32_128 c16_i32
  let c1_i32_129 : BitVec 32 := 1#32
  ⟨c0_i32_128, v216, c1_i32_129⟩
@[reducible] def k0_t10_loop : Scf.Loop 32 :=
  let c0_i32_126 : BitVec 32 := 0#32
  let c16_i32 : BitVec 32 := 16#32
  let v213 : BitVec 32 := Scalar.addi c0_i32_126 c16_i32
  let c1_i32_127 : BitVec 32 := 1#32
  ⟨c0_i32_126, v213, c1_i32_127⟩
@[reducible] def k0_t11_loop (i : grid0.Coords) : Scf.Loop 32 :=
  let c0_i32_29 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v56 : BitVec 32 := Scalar.subi v20 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_31 : BitVec 32 := 1#32
  ⟨c0_i32_29, v60, c1_i32_31⟩
def k0_off5 (i : grid0.Coords) (k0_t11 : Fin (k0_t11_loop i).trips) (c0_i32_127 : BitVec 32) : Fin 3 → Nat :=
  let c0_i32_29 : BitVec 32 := 0#32
  let c1_i32_31 : BitVec 32 := 1#32
  let arg16 : BitVec 32 := Scf.iv c0_i32_29 c1_i32_31 k0_t11
  let c4_i32_126 : BitVec 32 := 4#32
  let v213 : BitVec 32 := Scalar.muli arg16 c4_i32_126
  let v214 : BitVec 32 := Scalar.addi v213 c0_i32_127
  let v215 : Index := Scalar.indexCast v214
  let c0_128 : Index := 0#32
  let c0_129 : Index := 0#32
  ![v215.toNat, 0, 0]
@[reducible] def k0_t12_loop (i : grid0.Coords) : Scf.Loop 32 :=
  let c0_i32_29 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v56 : BitVec 32 := Scalar.subi v20 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let v57 : BitVec 32 := Scalar.addi c0_i32_29 v56
  let c1_i32_32 : BitVec 32 := 1#32
  ⟨v60, v57, c1_i32_32⟩
def k0_off6 (i : grid0.Coords) (k0_t12 : Fin (k0_t12_loop i).trips) (c0_i32_127 : BitVec 32) : Fin 3 → Nat :=
  let c0_i32_29 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v56 : BitVec 32 := Scalar.subi v20 c0_i32_29
  let c1_i32_30 : BitVec 32 := 1#32
  let v58 : BitVec 32 := Scalar.divsi v56 c1_i32_30
  let v59 : BitVec 32 := Scalar.muli v58 c1_i32_30
  let v60 : BitVec 32 := Scalar.addi c0_i32_29 v59
  let c1_i32_32 : BitVec 32 := 1#32
  let arg16 : BitVec 32 := Scf.iv v60 c1_i32_32 k0_t12
  let c4_i32_126 : BitVec 32 := 4#32
  let v213 : BitVec 32 := Scalar.muli arg16 c4_i32_126
  let v214 : BitVec 32 := Scalar.addi v213 c0_i32_127
  let v215 : Index := Scalar.indexCast v214
  let c0_128 : Index := 0#32
  let c0_129 : Index := 0#32
  ![v215.toNat, 0, 0]
def k0_cond8 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c0_i32_36 : BitVec 32 := 0#32
  let v66 : BitVec 1 := Scalar.cmpi .ne v65 c0_i32_36
  v66

def k0_cond9 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c0_i32_127 : BitVec 32 := 0#32
  let v214 : BitVec 1 := Scalar.cmpi .ne v213 c0_i32_127
  v214

def k0_cond10 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c1_i32_128 : BitVec 32 := 1#32
  let v216 : BitVec 32 := Scalar.subi v213 c1_i32_128
  let c0_i32_129 : BitVec 32 := 0#32
  let v217 : BitVec 1 := Scalar.cmpi .ne v216 c0_i32_129
  v217

def k0_cond11 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c1_i32_128 : BitVec 32 := 1#32
  let v216 : BitVec 32 := Scalar.subi v213 c1_i32_128
  let c1_i32_130 : BitVec 32 := 1#32
  let v219 : BitVec 32 := Scalar.subi v216 c1_i32_130
  let c0_i32_131 : BitVec 32 := 0#32
  let v220 : BitVec 1 := Scalar.cmpi .ne v219 c0_i32_131
  v220

def k0_cond12 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c0_i32_133 : BitVec 32 := 0#32
  let v223 : BitVec 1 := Scalar.cmpi .ne v222 c0_i32_133
  v223

def k0_cond13 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c1_i32_134 : BitVec 32 := 1#32
  let v225 : BitVec 32 := Scalar.subi v222 c1_i32_134
  let c0_i32_135 : BitVec 32 := 0#32
  let v226 : BitVec 1 := Scalar.cmpi .ne v225 c0_i32_135
  v226

def k0_cond14 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_33 : BitVec 32 := 1#32
  let v63 : BitVec 32 := Scalar.subi v20 c1_i32_33
  let c0_i32_34 : BitVec 32 := 0#32
  let v64 : BitVec 32 := Scalar.maxsi v63 c0_i32_34
  let c7_i32_35 : BitVec 32 := 7#32
  let v65 : BitVec 32 := Scalar.minsi v64 c7_i32_35
  let c1_i32_126 : BitVec 32 := 1#32
  let v213 : BitVec 32 := Scalar.subi v65 c1_i32_126
  let c1_i32_128 : BitVec 32 := 1#32
  let v216 : BitVec 32 := Scalar.subi v213 c1_i32_128
  let c1_i32_130 : BitVec 32 := 1#32
  let v219 : BitVec 32 := Scalar.subi v216 c1_i32_130
  let c1_i32_132 : BitVec 32 := 1#32
  let v222 : BitVec 32 := Scalar.subi v219 c1_i32_132
  let c1_i32_134 : BitVec 32 := 1#32
  let v225 : BitVec 32 := Scalar.subi v222 c1_i32_134
  let c1_i32_136 : BitVec 32 := 1#32
  let v228 : BitVec 32 := Scalar.subi v225 c1_i32_136
  let c0_i32_137 : BitVec 32 := 0#32
  let v229 : BitVec 1 := Scalar.cmpi .ne v228 c0_i32_137
  v229

@[reducible] def k0_t13_loop : Scf.Loop 32 :=
  let c0_i32_138 : BitVec 32 := 0#32
  let c16_i32 : BitVec 32 := 16#32
  let v231 : BitVec 32 := Scalar.addi c0_i32_138 c16_i32
  let c1_i32_139 : BitVec 32 := 1#32
  ⟨c0_i32_138, v231, c1_i32_139⟩
@[reducible] def k0_t14_loop : Scf.Loop 32 :=
  let c0_i32_138 : BitVec 32 := 0#32
  let c16_i32 : BitVec 32 := 16#32
  let v231 : BitVec 32 := Scalar.addi c0_i32_138 c16_i32
  let c1_i32_139 : BitVec 32 := 1#32
  ⟨c0_i32_138, v231, c1_i32_139⟩
@[reducible] def k0_t15_loop : Scf.Loop 32 :=
  let c0_i32_136 : BitVec 32 := 0#32
  let c16_i32 : BitVec 32 := 16#32
  let v228 : BitVec 32 := Scalar.addi c0_i32_136 c16_i32
  let c1_i32_137 : BitVec 32 := 1#32
  ⟨c0_i32_136, v228, c1_i32_137⟩
@[reducible] def k0_t16_loop : Scf.Loop 32 :=
  let c0_i32_134 : BitVec 32 := 0#32
  let c16_i32 : BitVec 32 := 16#32
  let v225 : BitVec 32 := Scalar.addi c0_i32_134 c16_i32
  let c1_i32_135 : BitVec 32 := 1#32
  ⟨c0_i32_134, v225, c1_i32_135⟩
@[reducible] def k0_t17_loop : Scf.Loop 32 :=
  let c0_i32_132 : BitVec 32 := 0#32
  let c16_i32 : BitVec 32 := 16#32
  let v222 : BitVec 32 := Scalar.addi c0_i32_132 c16_i32
  let c1_i32_133 : BitVec 32 := 1#32
  ⟨c0_i32_132, v222, c1_i32_133⟩
@[reducible] def k0_t18_loop : Scf.Loop 32 :=
  let c0_i32_130 : BitVec 32 := 0#32
  let c16_i32 : BitVec 32 := 16#32
  let v219 : BitVec 32 := Scalar.addi c0_i32_130 c16_i32
  let c1_i32_131 : BitVec 32 := 1#32
  ⟨c0_i32_130, v219, c1_i32_131⟩
@[reducible] def k0_t19_loop : Scf.Loop 32 :=
  let c0_i32_128 : BitVec 32 := 0#32
  let c16_i32 : BitVec 32 := 16#32
  let v216 : BitVec 32 := Scalar.addi c0_i32_128 c16_i32
  let c1_i32_129 : BitVec 32 := 1#32
  ⟨c0_i32_128, v216, c1_i32_129⟩
@[reducible] def k0_t20_loop : Scf.Loop 32 :=
  let c0_i32_126 : BitVec 32 := 0#32
  let c16_i32 : BitVec 32 := 16#32
  let v213 : BitVec 32 := Scalar.addi c0_i32_126 c16_i32
  let c1_i32_127 : BitVec 32 := 1#32
  ⟨c0_i32_126, v213, c1_i32_127⟩
@[reducible] def k0_t21_loop (i : grid0.Coords) : Scf.Loop 32 :=
  let c0_i32_37 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v70 : BitVec 32 := Scalar.subi v20 c0_i32_37
  let c1_i32_38 : BitVec 32 := 1#32
  let v72 : BitVec 32 := Scalar.divsi v70 c1_i32_38
  let v73 : BitVec 32 := Scalar.muli v72 c1_i32_38
  let v74 : BitVec 32 := Scalar.addi c0_i32_37 v73
  let c1_i32_39 : BitVec 32 := 1#32
  ⟨c0_i32_37, v74, c1_i32_39⟩
def k0_off7 (i : grid0.Coords) (k0_t21 : Fin (k0_t21_loop i).trips) (c0_i32_127 : BitVec 32) : Fin 3 → Nat :=
  let c0_i32_37 : BitVec 32 := 0#32
  let c1_i32_39 : BitVec 32 := 1#32
  let arg16 : BitVec 32 := Scf.iv c0_i32_37 c1_i32_39 k0_t21
  let c4_i32_126 : BitVec 32 := 4#32
  let v213 : BitVec 32 := Scalar.muli arg16 c4_i32_126
  let v214 : BitVec 32 := Scalar.addi v213 c0_i32_127
  let v215 : Index := Scalar.indexCast v214
  let c0_128 : Index := 0#32
  let c0_129 : Index := 0#32
  ![v215.toNat, 0, 0]
@[reducible] def k0_t22_loop (i : grid0.Coords) : Scf.Loop 32 :=
  let c0_i32_37 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v70 : BitVec 32 := Scalar.subi v20 c0_i32_37
  let c1_i32_38 : BitVec 32 := 1#32
  let v72 : BitVec 32 := Scalar.divsi v70 c1_i32_38
  let v73 : BitVec 32 := Scalar.muli v72 c1_i32_38
  let v74 : BitVec 32 := Scalar.addi c0_i32_37 v73
  let v71 : BitVec 32 := Scalar.addi c0_i32_37 v70
  let c1_i32_40 : BitVec 32 := 1#32
  ⟨v74, v71, c1_i32_40⟩
def k0_off8 (i : grid0.Coords) (k0_t22 : Fin (k0_t22_loop i).trips) (c0_i32_127 : BitVec 32) : Fin 3 → Nat :=
  let c0_i32_37 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v70 : BitVec 32 := Scalar.subi v20 c0_i32_37
  let c1_i32_38 : BitVec 32 := 1#32
  let v72 : BitVec 32 := Scalar.divsi v70 c1_i32_38
  let v73 : BitVec 32 := Scalar.muli v72 c1_i32_38
  let v74 : BitVec 32 := Scalar.addi c0_i32_37 v73
  let c1_i32_40 : BitVec 32 := 1#32
  let arg16 : BitVec 32 := Scf.iv v74 c1_i32_40 k0_t22
  let c4_i32_126 : BitVec 32 := 4#32
  let v213 : BitVec 32 := Scalar.muli arg16 c4_i32_126
  let v214 : BitVec 32 := Scalar.addi v213 c0_i32_127
  let v215 : Index := Scalar.indexCast v214
  let c0_128 : Index := 0#32
  let c0_129 : Index := 0#32
  ![v215.toNat, 0, 0]
@[reducible] def k0_t23_loop (i : grid0.Coords) : Scf.Loop 32 :=
  let c0_i32_127 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v213 : BitVec 32 := Scalar.subi v20 c0_i32_127
  let c1_i32_128 : BitVec 32 := 1#32
  let v215 : BitVec 32 := Scalar.divsi v213 c1_i32_128
  let v216 : BitVec 32 := Scalar.muli v215 c1_i32_128
  let v217 : BitVec 32 := Scalar.addi c0_i32_127 v216
  let c1_i32_129 : BitVec 32 := 1#32
  ⟨c0_i32_127, v217, c1_i32_129⟩
def k0_off9 (i : grid0.Coords) (k0_t23 : Fin (k0_t23_loop i).trips) (c0_i32_143 : BitVec 32) : Fin 3 → Nat :=
  let c0_i32_127 : BitVec 32 := 0#32
  let c1_i32_129 : BitVec 32 := 1#32
  let arg16 : BitVec 32 := Scf.iv c0_i32_127 c1_i32_129 k0_t23
  let c4_i32_142 : BitVec 32 := 4#32
  let v232 : BitVec 32 := Scalar.muli arg16 c4_i32_142
  let v233 : BitVec 32 := Scalar.addi v232 c0_i32_143
  let v234 : Index := Scalar.indexCast v233
  let c0_144 : Index := 0#32
  let c0_145 : Index := 0#32
  ![v234.toNat, 0, 0]
@[reducible] def k0_t24_loop (i : grid0.Coords) : Scf.Loop 32 :=
  let c0_i32_127 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v213 : BitVec 32 := Scalar.subi v20 c0_i32_127
  let c1_i32_128 : BitVec 32 := 1#32
  let v215 : BitVec 32 := Scalar.divsi v213 c1_i32_128
  let v216 : BitVec 32 := Scalar.muli v215 c1_i32_128
  let v217 : BitVec 32 := Scalar.addi c0_i32_127 v216
  let v214 : BitVec 32 := Scalar.addi c0_i32_127 v213
  let c1_i32_130 : BitVec 32 := 1#32
  ⟨v217, v214, c1_i32_130⟩
def k0_off10 (i : grid0.Coords) (k0_t24 : Fin (k0_t24_loop i).trips) (c0_i32_143 : BitVec 32) : Fin 3 → Nat :=
  let c0_i32_127 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v213 : BitVec 32 := Scalar.subi v20 c0_i32_127
  let c1_i32_128 : BitVec 32 := 1#32
  let v215 : BitVec 32 := Scalar.divsi v213 c1_i32_128
  let v216 : BitVec 32 := Scalar.muli v215 c1_i32_128
  let v217 : BitVec 32 := Scalar.addi c0_i32_127 v216
  let c1_i32_130 : BitVec 32 := 1#32
  let arg16 : BitVec 32 := Scf.iv v217 c1_i32_130 k0_t24
  let c4_i32_142 : BitVec 32 := 4#32
  let v232 : BitVec 32 := Scalar.muli arg16 c4_i32_142
  let v233 : BitVec 32 := Scalar.addi v232 c0_i32_143
  let v234 : Index := Scalar.indexCast v233
  let c0_144 : Index := 0#32
  let c0_145 : Index := 0#32
  ![v234.toNat, 0, 0]
def k0_cond16 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c0_i32_135 : BitVec 32 := 0#32
  let v223 : BitVec 1 := Scalar.cmpi .ne v222 c0_i32_135
  v223

def k0_cond17 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c0_i32_143 : BitVec 32 := 0#32
  let v233 : BitVec 1 := Scalar.cmpi .ne v232 c0_i32_143
  v233

def k0_cond18 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c1_i32_144 : BitVec 32 := 1#32
  let v235 : BitVec 32 := Scalar.subi v232 c1_i32_144
  let c0_i32_145 : BitVec 32 := 0#32
  let v236 : BitVec 1 := Scalar.cmpi .ne v235 c0_i32_145
  v236

def k0_cond19 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c1_i32_144 : BitVec 32 := 1#32
  let v235 : BitVec 32 := Scalar.subi v232 c1_i32_144
  let c1_i32_146 : BitVec 32 := 1#32
  let v238 : BitVec 32 := Scalar.subi v235 c1_i32_146
  let c0_i32_147 : BitVec 32 := 0#32
  let v239 : BitVec 1 := Scalar.cmpi .ne v238 c0_i32_147
  v239

def k0_cond20 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c1_i32_144 : BitVec 32 := 1#32
  let v235 : BitVec 32 := Scalar.subi v232 c1_i32_144
  let c1_i32_146 : BitVec 32 := 1#32
  let v238 : BitVec 32 := Scalar.subi v235 c1_i32_146
  let c1_i32_148 : BitVec 32 := 1#32
  let v241 : BitVec 32 := Scalar.subi v238 c1_i32_148
  let c0_i32_149 : BitVec 32 := 0#32
  let v242 : BitVec 1 := Scalar.cmpi .ne v241 c0_i32_149
  v242

def k0_cond21 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c1_i32_144 : BitVec 32 := 1#32
  let v235 : BitVec 32 := Scalar.subi v232 c1_i32_144
  let c1_i32_146 : BitVec 32 := 1#32
  let v238 : BitVec 32 := Scalar.subi v235 c1_i32_146
  let c1_i32_148 : BitVec 32 := 1#32
  let v241 : BitVec 32 := Scalar.subi v238 c1_i32_148
  let c1_i32_150 : BitVec 32 := 1#32
  let v244 : BitVec 32 := Scalar.subi v241 c1_i32_150
  let c0_i32_151 : BitVec 32 := 0#32
  let v245 : BitVec 1 := Scalar.cmpi .ne v244 c0_i32_151
  v245

def k0_cond22 (i : grid0.Coords) : BitVec 1 :=
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let c1_i32_132 : BitVec 32 := 1#32
  let v220 : BitVec 32 := Scalar.subi v20 c1_i32_132
  let c0_i32_133 : BitVec 32 := 0#32
  let v221 : BitVec 32 := Scalar.maxsi v220 c0_i32_133
  let c7_i32_134 : BitVec 32 := 7#32
  let v222 : BitVec 32 := Scalar.minsi v221 c7_i32_134
  let c1_i32_142 : BitVec 32 := 1#32
  let v232 : BitVec 32 := Scalar.subi v222 c1_i32_142
  let c1_i32_144 : BitVec 32 := 1#32
  let v235 : BitVec 32 := Scalar.subi v232 c1_i32_144
  let c1_i32_146 : BitVec 32 := 1#32
  let v238 : BitVec 32 := Scalar.subi v235 c1_i32_146
  let c1_i32_148 : BitVec 32 := 1#32
  let v241 : BitVec 32 := Scalar.subi v238 c1_i32_148
  let c1_i32_150 : BitVec 32 := 1#32
  let v244 : BitVec 32 := Scalar.subi v241 c1_i32_150
  let c1_i32_152 : BitVec 32 := 1#32
  let v247 : BitVec 32 := Scalar.subi v244 c1_i32_152
  let c0_i32_153 : BitVec 32 := 0#32
  let v248 : BitVec 1 := Scalar.cmpi .ne v247 c0_i32_153
  v248

@[reducible] def k0_t25_loop : Scf.Loop 32 :=
  let c0_i32_154 : BitVec 32 := 0#32
  let c12_i32 : BitVec 32 := 12#32
  let v250 : BitVec 32 := Scalar.addi c0_i32_154 c12_i32
  let c1_i32_155 : BitVec 32 := 1#32
  ⟨c0_i32_154, v250, c1_i32_155⟩
@[reducible] def k0_t26_loop : Scf.Loop 32 :=
  let c0_i32_154 : BitVec 32 := 0#32
  let c12_i32 : BitVec 32 := 12#32
  let v250 : BitVec 32 := Scalar.addi c0_i32_154 c12_i32
  let c1_i32_155 : BitVec 32 := 1#32
  ⟨c0_i32_154, v250, c1_i32_155⟩
@[reducible] def k0_t27_loop : Scf.Loop 32 :=
  let c0_i32_152 : BitVec 32 := 0#32
  let c12_i32 : BitVec 32 := 12#32
  let v247 : BitVec 32 := Scalar.addi c0_i32_152 c12_i32
  let c1_i32_153 : BitVec 32 := 1#32
  ⟨c0_i32_152, v247, c1_i32_153⟩
@[reducible] def k0_t28_loop : Scf.Loop 32 :=
  let c0_i32_150 : BitVec 32 := 0#32
  let c12_i32 : BitVec 32 := 12#32
  let v244 : BitVec 32 := Scalar.addi c0_i32_150 c12_i32
  let c1_i32_151 : BitVec 32 := 1#32
  ⟨c0_i32_150, v244, c1_i32_151⟩
@[reducible] def k0_t29_loop : Scf.Loop 32 :=
  let c0_i32_148 : BitVec 32 := 0#32
  let c12_i32 : BitVec 32 := 12#32
  let v241 : BitVec 32 := Scalar.addi c0_i32_148 c12_i32
  let c1_i32_149 : BitVec 32 := 1#32
  ⟨c0_i32_148, v241, c1_i32_149⟩
@[reducible] def k0_t30_loop : Scf.Loop 32 :=
  let c0_i32_146 : BitVec 32 := 0#32
  let c12_i32 : BitVec 32 := 12#32
  let v238 : BitVec 32 := Scalar.addi c0_i32_146 c12_i32
  let c1_i32_147 : BitVec 32 := 1#32
  ⟨c0_i32_146, v238, c1_i32_147⟩
@[reducible] def k0_t31_loop : Scf.Loop 32 :=
  let c0_i32_144 : BitVec 32 := 0#32
  let c12_i32 : BitVec 32 := 12#32
  let v235 : BitVec 32 := Scalar.addi c0_i32_144 c12_i32
  let c1_i32_145 : BitVec 32 := 1#32
  ⟨c0_i32_144, v235, c1_i32_145⟩
@[reducible] def k0_t32_loop : Scf.Loop 32 :=
  let c0_i32_142 : BitVec 32 := 0#32
  let c12_i32 : BitVec 32 := 12#32
  let v232 : BitVec 32 := Scalar.addi c0_i32_142 c12_i32
  let c1_i32_143 : BitVec 32 := 1#32
  ⟨c0_i32_142, v232, c1_i32_143⟩
@[reducible] def k0_t33_loop (i : grid0.Coords) : Scf.Loop 32 :=
  let c0_i32_138 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v227 : BitVec 32 := Scalar.subi v20 c0_i32_138
  let c1_i32_139 : BitVec 32 := 1#32
  let v229 : BitVec 32 := Scalar.divsi v227 c1_i32_139
  let v230 : BitVec 32 := Scalar.muli v229 c1_i32_139
  let v231 : BitVec 32 := Scalar.addi c0_i32_138 v230
  let c1_i32_140 : BitVec 32 := 1#32
  ⟨c0_i32_138, v231, c1_i32_140⟩
def k0_off11 (i : grid0.Coords) (k0_t33 : Fin (k0_t33_loop i).trips) (c0_i32_143 : BitVec 32) : Fin 3 → Nat :=
  let c0_i32_138 : BitVec 32 := 0#32
  let c1_i32_140 : BitVec 32 := 1#32
  let arg16 : BitVec 32 := Scf.iv c0_i32_138 c1_i32_140 k0_t33
  let c4_i32_142 : BitVec 32 := 4#32
  let v232 : BitVec 32 := Scalar.muli arg16 c4_i32_142
  let v233 : BitVec 32 := Scalar.addi v232 c0_i32_143
  let v234 : Index := Scalar.indexCast v233
  let c0_144 : Index := 0#32
  let c0_145 : Index := 0#32
  ![v234.toNat, 0, 0]
@[reducible] def k0_t34_loop (i : grid0.Coords) : Scf.Loop 32 :=
  let c0_i32_138 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v227 : BitVec 32 := Scalar.subi v20 c0_i32_138
  let c1_i32_139 : BitVec 32 := 1#32
  let v229 : BitVec 32 := Scalar.divsi v227 c1_i32_139
  let v230 : BitVec 32 := Scalar.muli v229 c1_i32_139
  let v231 : BitVec 32 := Scalar.addi c0_i32_138 v230
  let v228 : BitVec 32 := Scalar.addi c0_i32_138 v227
  let c1_i32_141 : BitVec 32 := 1#32
  ⟨v231, v228, c1_i32_141⟩
def k0_off12 (i : grid0.Coords) (k0_t34 : Fin (k0_t34_loop i).trips) (c0_i32_143 : BitVec 32) : Fin 3 → Nat :=
  let c0_i32_138 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v227 : BitVec 32 := Scalar.subi v20 c0_i32_138
  let c1_i32_139 : BitVec 32 := 1#32
  let v229 : BitVec 32 := Scalar.divsi v227 c1_i32_139
  let v230 : BitVec 32 := Scalar.muli v229 c1_i32_139
  let v231 : BitVec 32 := Scalar.addi c0_i32_138 v230
  let c1_i32_141 : BitVec 32 := 1#32
  let arg16 : BitVec 32 := Scf.iv v231 c1_i32_141 k0_t34
  let c4_i32_142 : BitVec 32 := 4#32
  let v232 : BitVec 32 := Scalar.muli arg16 c4_i32_142
  let v233 : BitVec 32 := Scalar.addi v232 c0_i32_143
  let v234 : Index := Scalar.indexCast v233
  let c0_144 : Index := 0#32
  let c0_145 : Index := 0#32
  ![v234.toNat, 0, 0]
@[reducible] def k0_t35_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_90 : BitVec 32 := 1#32
  ⟨c0_i32_88, v136, c1_i32_90⟩
def k0_mult3 (i : grid0.Coords) (k0_t35 : Fin (k0_t35_loop i).trips) : BitVec 32 :=
  let c0_i32_88 : BitVec 32 := 0#32
  let c1_i32_90 : BitVec 32 := 1#32
  let arg16 : BitVec 32 := Scf.iv c0_i32_88 c1_i32_90 k0_t35
  let c512_i32_126 : BitVec 32 := 512#32
  let v213 : BitVec 32 := Scalar.muli arg16 c512_i32_126
  v213
def k0_off13 (i : grid0.Coords) (k0_t35 : Fin (k0_t35_loop i).trips) : Fin 2 → Nat :=
  let c0_i32_88 : BitVec 32 := 0#32
  let c1_i32_90 : BitVec 32 := 1#32
  let arg16 : BitVec 32 := Scf.iv c0_i32_88 c1_i32_90 k0_t35
  let c512_i32_126 : BitVec 32 := 512#32
  let v213 : BitVec 32 := Scalar.muli arg16 c512_i32_126
  let v214 : BitVec 32 := v213
  let v215 : Index := Scalar.indexCast v214
  let c0_127 : Index := 0#32
  ![v215.toNat, 0]
def k0_off14 (i : grid0.Coords) (k0_t35 : Fin (k0_t35_loop i).trips) (c0_i32_129 : BitVec 32) : Fin 3 → Nat :=
  let c0_i32_88 : BitVec 32 := 0#32
  let c1_i32_90 : BitVec 32 := 1#32
  let arg16 : BitVec 32 := Scf.iv c0_i32_88 c1_i32_90 k0_t35
  let c4_i32_128 : BitVec 32 := 4#32
  let v217 : BitVec 32 := Scalar.muli arg16 c4_i32_128
  let v218 : BitVec 32 := Scalar.addi v217 c0_i32_129
  let v219 : Index := Scalar.indexCast v218
  let c0_130 : Index := 0#32
  let c0_131 : Index := 0#32
  ![v219.toNat, 0, 0]
def k0_off15 (i : grid0.Coords) (k0_t35 : Fin (k0_t35_loop i).trips) (c0_i32_139 : BitVec 32) : Fin 3 → Nat :=
  let c0_i32_88 : BitVec 32 := 0#32
  let c1_i32_90 : BitVec 32 := 1#32
  let arg16 : BitVec 32 := Scf.iv c0_i32_88 c1_i32_90 k0_t35
  let c4_i32_128 : BitVec 32 := 4#32
  let v217 : BitVec 32 := Scalar.muli arg16 c4_i32_128
  let v246 : BitVec 32 := Scalar.addi v217 c0_i32_139
  let v247 : Index := Scalar.indexCast v246
  let c0_140 : Index := 0#32
  let c0_141 : Index := 0#32
  ![v247.toNat, 0, 0]
def k0_off16 (i : grid0.Coords) (k0_t35 : Fin (k0_t35_loop i).trips) (c0_i32_181 : BitVec 32) (c0_i32_179 : BitVec 32) (c0_i32_183 : BitVec 32) (c0_i32_184 : BitVec 32) : Fin 3 → Nat :=
  let c13_i32 : BitVec 32 := 13#32
  let c0_i32_182 : BitVec 32 := 0#32
  let c4_i32_180 : BitVec 32 := 4#32
  let arg1 : BitVec 32 := BitVec.ofNat 32 (i 1).val
  let v289 : BitVec 32 := Scalar.muli c4_i32_180 arg1
  let v290 : BitVec 32 := Scalar.addi v289 c0_i32_181
  let c0_i32_88 : BitVec 32 := 0#32
  let c1_i32_90 : BitVec 32 := 1#32
  let arg16 : BitVec 32 := Scf.iv c0_i32_88 c1_i32_90 k0_t35
  let c4_i32_128 : BitVec 32 := 4#32
  let v217 : BitVec 32 := Scalar.muli arg16 c4_i32_128
  let v288 : BitVec 32 := Scalar.addi v217 c0_i32_179
  let v291 : BitVec 32 := Scalar.subi v290 v288
  let v292 : BitVec 32 := Scalar.maxsi c0_i32_182 v291
  let v293 : BitVec 32 := Scalar.minsi c13_i32 v292
  let c8_i32 : BitVec 32 := 8#32
  let v294 : BitVec 32 := Scalar.muli v293 c8_i32
  let v295 : BitVec 32 := Scalar.addi v294 c0_i32_183
  let v296 : BitVec 32 := Scalar.addi v295 c0_i32_184
  let v297 : Index := Scalar.indexCast v296
  let c0_185 : Index := 0#32
  let c0_186 : Index := 0#32
  ![v297.toNat, 0, 0]
@[reducible] def k0_t36_loop (i : grid0.Coords) : Scf.Loop 32 :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let v133 : BitVec 32 := Scalar.addi c0_i32_88 v132
  let c1_i32_91 : BitVec 32 := 1#32
  ⟨v136, v133, c1_i32_91⟩
def k0_mult4 (i : grid0.Coords) (k0_t36 : Fin (k0_t36_loop i).trips) : BitVec 32 :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_91 : BitVec 32 := 1#32
  let arg16 : BitVec 32 := Scf.iv v136 c1_i32_91 k0_t36
  let c512_i32_126 : BitVec 32 := 512#32
  let v213 : BitVec 32 := Scalar.muli arg16 c512_i32_126
  v213
def k0_off17 (i : grid0.Coords) (k0_t36 : Fin (k0_t36_loop i).trips) : Fin 2 → Nat :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_91 : BitVec 32 := 1#32
  let arg16 : BitVec 32 := Scf.iv v136 c1_i32_91 k0_t36
  let c512_i32_126 : BitVec 32 := 512#32
  let v213 : BitVec 32 := Scalar.muli arg16 c512_i32_126
  let v214 : BitVec 32 := v213
  let v215 : Index := Scalar.indexCast v214
  let c0_127 : Index := 0#32
  ![v215.toNat, 0]
def k0_off18 (i : grid0.Coords) (k0_t36 : Fin (k0_t36_loop i).trips) (c0_i32_129 : BitVec 32) : Fin 3 → Nat :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_91 : BitVec 32 := 1#32
  let arg16 : BitVec 32 := Scf.iv v136 c1_i32_91 k0_t36
  let c4_i32_128 : BitVec 32 := 4#32
  let v217 : BitVec 32 := Scalar.muli arg16 c4_i32_128
  let v218 : BitVec 32 := Scalar.addi v217 c0_i32_129
  let v219 : Index := Scalar.indexCast v218
  let c0_130 : Index := 0#32
  let c0_131 : Index := 0#32
  ![v219.toNat, 0, 0]
def k0_off19 (i : grid0.Coords) (k0_t36 : Fin (k0_t36_loop i).trips) (c0_i32_139 : BitVec 32) : Fin 3 → Nat :=
  let c0_i32_88 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_91 : BitVec 32 := 1#32
  let arg16 : BitVec 32 := Scf.iv v136 c1_i32_91 k0_t36
  let c4_i32_128 : BitVec 32 := 4#32
  let v217 : BitVec 32 := Scalar.muli arg16 c4_i32_128
  let v246 : BitVec 32 := Scalar.addi v217 c0_i32_139
  let v247 : Index := Scalar.indexCast v246
  let c0_140 : Index := 0#32
  let c0_141 : Index := 0#32
  ![v247.toNat, 0, 0]
def k0_off20 (i : grid0.Coords) (k0_t36 : Fin (k0_t36_loop i).trips) (c0_i32_181 : BitVec 32) (c0_i32_179 : BitVec 32) (c0_i32_183 : BitVec 32) (c0_i32_184 : BitVec 32) : Fin 3 → Nat :=
  let c13_i32 : BitVec 32 := 13#32
  let c0_i32_182 : BitVec 32 := 0#32
  let c4_i32_180 : BitVec 32 := 4#32
  let arg1 : BitVec 32 := BitVec.ofNat 32 (i 1).val
  let v289 : BitVec 32 := Scalar.muli c4_i32_180 arg1
  let v290 : BitVec 32 := Scalar.addi v289 c0_i32_181
  let c0_i32_88 : BitVec 32 := 0#32
  let c1_i32 : BitVec 32 := 1#32
  let v0 : BitVec 32 := Scalar.addi arg1 c1_i32
  let c4_i32 : BitVec 32 := 4#32
  let v1 : BitVec 32 := Scalar.muli v0 c4_i32
  let c4_i32_0 : BitVec 32 := 4#32
  let v2 : BitVec 32 := Scalar.addi v1 c4_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c4_i32_2 : BitVec 32 := 4#32
  let c0_i32_4 : BitVec 32 := 0#32
  let v10 : BitVec 1 := Scalar.cmpi .sgt c4_i32_2 c0_i32_4
  let v11 : BitVec 32 := Scalar.extui v10
  let c0_i32_5 : BitVec 32 := 0#32
  let v12 : BitVec 1 := Scalar.cmpi .slt c4_i32_2 c0_i32_5
  let v13 : BitVec 32 := Scalar.extui v12
  let v14 : BitVec 32 := Scalar.subi v11 v13
  let v15 : BitVec 1 := Scalar.cmpi .ne v9 v14
  let v16 : BitVec 32 := Scalar.remsi v3 c4_i32_2
  let c0_i32_6 : BitVec 32 := 0#32
  let v17 : BitVec 1 := Scalar.cmpi .ne v16 c0_i32_6
  let v18 : BitVec 1 := Scalar.andi v15 v17
  let v4 : BitVec 32 := Scalar.divsi v3 c4_i32_2
  let c1_i32_7 : BitVec 32 := 1#32
  let v19 : BitVec 32 := Scalar.subi v4 c1_i32_7
  let v20 : BitVec 32 := Scalar.select v18 v19 v4
  let v132 : BitVec 32 := Scalar.subi v20 c0_i32_88
  let c1_i32_89 : BitVec 32 := 1#32
  let v134 : BitVec 32 := Scalar.divsi v132 c1_i32_89
  let v135 : BitVec 32 := Scalar.muli v134 c1_i32_89
  let v136 : BitVec 32 := Scalar.addi c0_i32_88 v135
  let c1_i32_91 : BitVec 32 := 1#32
  let arg16 : BitVec 32 := Scf.iv v136 c1_i32_91 k0_t36
  let c4_i32_128 : BitVec 32 := 4#32
  let v217 : BitVec 32 := Scalar.muli arg16 c4_i32_128
  let v288 : BitVec 32 := Scalar.addi v217 c0_i32_179
  let v291 : BitVec 32 := Scalar.subi v290 v288
  let v292 : BitVec 32 := Scalar.maxsi c0_i32_182 v291
  let v293 : BitVec 32 := Scalar.minsi c13_i32 v292
  let c8_i32 : BitVec 32 := 8#32
  let v294 : BitVec 32 := Scalar.muli v293 c8_i32
  let v295 : BitVec 32 := Scalar.addi v294 c0_i32_183
  let v296 : BitVec 32 := Scalar.addi v295 c0_i32_184
  let v297 : Index := Scalar.indexCast v296
  let c0_185 : Index := 0#32
  let c0_186 : Index := 0#32
  ![v297.toNat, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S112x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 11
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x7644 : Shape := ⟨2, ![1024, 7644]⟩
abbrev S1024x3072 : Shape := ⟨2, ![1024, 3072]⟩
abbrev S_ : Shape := ⟨0, ![]⟩
abbrev S3072 : Shape := ⟨1, ![3072]⟩
abbrev S1x3072 : Shape := ⟨2, ![1, 3072]⟩
abbrev S3x3072 : Shape := ⟨2, ![3, 3072]⟩
abbrev S256x256 : Shape := ⟨2, ![256, 256]⟩
abbrev S1x1024 : Shape := ⟨2, ![1, 1024]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 27
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7644, .f32⟩
  | .hbm, ⟨3, _⟩ => ⟨S1024x7644, .bf16⟩
  | .hbm, ⟨4, _⟩ => ⟨S1024x3072, .bf16⟩
  | .hbm, ⟨5, _⟩ => ⟨S_, .f32⟩
  | .hbm, ⟨6, _⟩ => ⟨S3072, .f32⟩
  | .hbm, ⟨7, _⟩ => ⟨S1x3072, .f32⟩
  | .hbm, ⟨8, _⟩ => ⟨S1x3072, .f32⟩
  | .hbm, ⟨9, _⟩ => ⟨S1x3072, .f32⟩
  | .hbm, ⟨10, _⟩ => ⟨S3x3072, .f32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .bf16⟩
  | .hbm, ⟨21, _⟩ => ⟨S256x256, .bf16⟩
  | .hbm, ⟨22, _⟩ => ⟨S_, .bf16⟩
  | .hbm, ⟨23, _⟩ => ⟨S256x256, .bf16⟩
  | .hbm, ⟨24, _⟩ => ⟨S256x256, .bf16⟩
  | .hbm, ⟨25, _⟩ => ⟨S1x1024, .f32⟩
  | .hbm, ⟨26, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x256, .bf16⟩
  | .local _ .vmem, ⟨4, _⟩ => ⟨S1024x3072, .bf16⟩
  | .local _ .vmem, ⟨5, _⟩ => ⟨S3x3072, .f32⟩
  | .local _ .vmem, ⟨6, _⟩ => ⟨S512x3072, .bf16⟩
  | .local _ .vmem, ⟨7, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024 : Shape := ⟨1, ![1024]⟩
abbrev S1024x7644 : Shape := ⟨2, ![1024, 7644]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7644 : Shape := ⟨2, ![32768, 7644]⟩
abbrev S32768x3072 : Shape := ⟨2, ![32768, 3072]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7644, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7644, .f32⟩
  | .hbm, ⟨20, _⟩ => ⟨S32768x3072, .f32⟩
  | .hbm, ⟨21, _⟩ => ⟨S32768x3072, .f32⟩
  | .hbm, ⟨22, _⟩ => ⟨S32768x3072, .f32⟩
  | .hbm, ⟨23, _⟩ => ⟨S_, .f32⟩
  | .hbm, ⟨24, _⟩ => ⟨S32768x3072, .f32⟩
  | .hbm, ⟨25, _⟩ => ⟨S32768x3072, .f32⟩
  | .hbm, ⟨26, _⟩ => ⟨S_, .f32⟩
  | .hbm, ⟨27, _⟩ => ⟨S32768x3072, .f32⟩
  | .hbm, ⟨28, _⟩ => ⟨S32768x3072, .f32⟩
  | .hbm, ⟨29, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S64x1x512x256 : Shape := ⟨4, ![64, 1, 512, 256]⟩
abbrev S64x4x128x256 : Shape := ⟨4, ![64, 4, 128, 256]⟩
abbrev S64x16x32x256 : Shape := ⟨4, ![64, 16, 32, 256]⟩
abbrev S32768x3072 : Shape := ⟨2, ![32768, 3072]⟩
abbrev S512x1024 : Shape := ⟨2, ![512, 1024]⟩
abbrev S256x1024 : Shape := ⟨2, ![256, 1024]⟩
abbrev S1024x1024 : Shape := ⟨2, ![1024, 1024]⟩
abbrev S512x512 : Shape := ⟨2, ![512, 512]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S512x3072 : Shape := ⟨2, ![512, 3072]⟩
abbrev S12x512x128 : Shape := ⟨3, ![12, 512, 128]⟩
abbrev S512x256 : Shape := ⟨2, ![512, 256]⟩
abbrev S1x1x128x256 : Shape := ⟨4, ![1, 1, 128, 256]⟩
abbrev S128x256 : Shape := ⟨2, ![128, 256]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x256 : Shape := ⟨4, ![1, 1, 32, 256]⟩
abbrev S32x256 : Shape := ⟨2, ![32, 256]⟩
abbrev S32x128 : Shape := ⟨2, ![32, 128]⟩
abbrev S1x32x128 : Shape := ⟨3, ![1, 32, 128]⟩

abbrev nBuf : Space → Nat
  | .hbm => 19
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S64x1x512x256, .f32⟩
  | .hbm, ⟨4, _⟩ => ⟨S64x1x512x256, .f32⟩
  | .hbm, ⟨5, _⟩ => ⟨S64x4x128x256, .f32⟩
  | .hbm, ⟨6, _⟩ => ⟨S64x4x128x256, .f32⟩
  | .hbm, ⟨7, _⟩ => ⟨S64x16x32x256, .f32⟩
  | .hbm, ⟨8, _⟩ => ⟨S64x16x32x256, .f32⟩
  | .hbm, ⟨9, _⟩ => ⟨S32768x3072, .bf16⟩
  | .hbm, ⟨10, _⟩ => ⟨S512x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S512x1024, .bf16⟩
  | .hbm, ⟨15, _⟩ => ⟨S512x1024, .bf16⟩
  | .hbm, ⟨16, _⟩ => ⟨S256x1024, .bf16⟩
  | .hbm, ⟨17, _⟩ => ⟨S1024x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x512x256, .f32⟩
  | .local _ .vmem, ⟨7, _⟩ => ⟨S1x1x512x256, .f32⟩
  | .local _ .vmem, ⟨8, _⟩ => ⟨S1x1x512x256, .f32⟩
  | .local _ .vmem, ⟨9, _⟩ => ⟨S1x1x512x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x4x128x256, .f32⟩
  | .local _ .vmem, ⟨13, _⟩ => ⟨S1x4x128x256, .f32⟩
  | .local _ .vmem, ⟨14, _⟩ => ⟨S1x16x32x256, .f32⟩
  | .local _ .vmem, ⟨15, _⟩ => ⟨S1x16x32x256, .f32⟩
  | .local _ .vmem, ⟨16, _⟩ => ⟨S1x16x32x256, .f32⟩
  | .local _ .vmem, ⟨17, _⟩ => ⟨S1x16x32x256, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S512x1024, .bf16⟩
  | .local _ .vmem, ⟨22, _⟩ => ⟨S256x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S12x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x1024 : Shape := ⟨2, ![32768, 1024]⟩
abbrev S32768x512 : Shape := ⟨2, ![32768, 512]⟩
abbrev S64x1x512x256 : Shape := ⟨4, ![64, 1, 512, 256]⟩
abbrev S64x4x128x256 : Shape := ⟨4, ![64, 4, 128, 256]⟩
abbrev S64x16x32x256 : Shape := ⟨4, ![64, 16, 32, 256]⟩
abbrev S32768x3072 : Shape := ⟨2, ![32768, 3072]⟩
abbrev S512x1024 : Shape := ⟨2, ![512, 1024]⟩
abbrev S256x1024 : Shape := ⟨2, ![256, 1024]⟩
abbrev S1024x1024 : Shape := ⟨2, ![1024, 1024]⟩
abbrev S64x512x1x256 : Shape := ⟨4, ![64, 512, 1, 256]⟩
abbrev S32768x256 : Shape := ⟨2, ![32768, 256]⟩
abbrev S64x128x4x256 : Shape := ⟨4, ![64, 128, 4, 256]⟩
abbrev S64x32x16x256 : Shape := ⟨4, ![64, 32, 16, 256]⟩
abbrev S1x32768x256 : Shape := ⟨3, ![1, 32768, 256]⟩
abbrev S3x32768x256 : Shape := ⟨3, ![3, 32768, 256]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S64x1x512x256, .f32⟩
  | .hbm, ⟨4, _⟩ => ⟨S64x1x512x256, .f32⟩
  | .hbm, ⟨5, _⟩ => ⟨S64x4x128x256, .f32⟩
  | .hbm, ⟨6, _⟩ => ⟨S64x4x128x256, .f32⟩
  | .hbm, ⟨7, _⟩ => ⟨S64x16x32x256, .f32⟩
  | .hbm, ⟨8, _⟩ => ⟨S64x16x32x256, .f32⟩
  | .hbm, ⟨9, _⟩ => ⟨S32768x3072, .bf16⟩
  | .hbm, ⟨10, _⟩ => ⟨S512x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S64x512x1x256, .f32⟩
  | .hbm, ⟨15, _⟩ => ⟨S32768x256, .f32⟩
  | .hbm, ⟨16, _⟩ => ⟨S64x128x4x256, .f32⟩
  | .hbm, ⟨17, _⟩ => ⟨S32768x256, .f32⟩
  | .hbm, ⟨18, _⟩ => ⟨S64x32x16x256, .f32⟩
  | .hbm, ⟨19, _⟩ => ⟨S32768x256, .f32⟩
  | .hbm, ⟨20, _⟩ => ⟨S1x32768x256, .f32⟩
  | .hbm, ⟨21, _⟩ => ⟨S1x32768x256, .f32⟩
  | .hbm, ⟨22, _⟩ => ⟨S1x32768x256, .f32⟩
  | .hbm, ⟨23, _⟩ => ⟨S3x32768x256, .f32⟩
  | .hbm, ⟨24, _⟩ => ⟨S_, .f32⟩
  | .hbm, ⟨25, _⟩ => ⟨S32768x256, .f32⟩
  | .hbm, ⟨26, _⟩ => ⟨S_, .f32⟩
  | .hbm, ⟨27, _⟩ => ⟨S32768x256, .f32⟩
  | .hbm, ⟨28, _⟩ => ⟨S32768x256, .f32⟩
  | .hbm, ⟨29, _⟩ => ⟨S1x32768x256, .f32⟩
  | .hbm, ⟨30, _⟩ => ⟨S3x32768x256, .f32⟩
  | .hbm, ⟨31, _⟩ => ⟨S3x32768x256, .f32⟩
  | .hbm, ⟨32, _⟩ => ⟨S3x32768x256, .f32⟩
  | .hbm, ⟨33, _⟩ => ⟨S_, .f32⟩
  | .hbm, ⟨34, _⟩ => ⟨S32768x256, .f32⟩
  | .hbm, ⟨35, _⟩ => ⟨S1x32768x256, .f32⟩
  | .hbm, ⟨36, _⟩ => ⟨S3x32768x256, .f32⟩
  | .hbm, ⟨37, _⟩ => ⟨S3x32768x256, .f32⟩
  | .hbm, ⟨38, _⟩ => ⟨S1x32768x256, .f32⟩
  | .hbm, ⟨39, _⟩ => ⟨S32768x256, .f32⟩
  | .hbm, ⟨40, _⟩ => ⟨S64x512x1x256, .f32⟩
  | .hbm, ⟨41, _⟩ => ⟨S32768x256, .f32⟩
  | .hbm, ⟨42, _⟩ => ⟨S32768x256, .f32⟩
  | .hbm, ⟨43, _⟩ => ⟨S1x32768x256, .f32⟩
  | .hbm, ⟨44, _⟩ => ⟨S32768x256, .f32⟩
  | .hbm, ⟨45, _⟩ => ⟨S64x128x4x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S1x32768x256, .f32⟩
  | .hbm, ⟨50, _⟩ => ⟨S32768x256, .f32⟩
  | .hbm, ⟨51, _⟩ => ⟨S64x32x16x256, .f32⟩
  | .hbm, ⟨52, _⟩ => ⟨S32768x256, .f32⟩
  | .hbm, ⟨53, _⟩ => ⟨S32768x256, .f32⟩
  | .hbm, ⟨54, _⟩ => ⟨S32768x256, .f32⟩
  | .hbm, ⟨55, _⟩ => ⟨S32768x3072, .f32⟩
  | .hbm, ⟨56, _⟩ => ⟨S32768x1024, .f32⟩
  | .hbm, ⟨57, _⟩ => ⟨S32768x512, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x512, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x7644 : Shape := ⟨2, ![1024, 7644]⟩
abbrev S6x64 : Shape := ⟨2, ![6, 64]⟩
abbrev S1024x256 : Shape := ⟨2, ![1024, 256]⟩
abbrev S1024x768 : Shape := ⟨2, ![1024, 768]⟩
abbrev S_ : Shape := ⟨0, ![]⟩
abbrev S512 : Shape := ⟨1, ![512]⟩
abbrev S256 : Shape := ⟨1, ![256]⟩
abbrev S768 : Shape := ⟨1, ![768]⟩
abbrev S1x64 : Shape := ⟨2, ![1, 64]⟩
abbrev S64 : Shape := ⟨1, ![64]⟩
abbrev S4x64 : Shape := ⟨2, ![4, 64]⟩
abbrev S1x768 : Shape := ⟨2, ![1, 768]⟩
abbrev S3x768 : Shape := ⟨2, ![3, 768]⟩
abbrev S256x256 : Shape := ⟨2, ![256, 256]⟩
abbrev S1x1024 : Shape := ⟨2, ![1, 1024]⟩
abbrev S64x1x3x512x256 : Shape := ⟨5, ![64, 1, 3, 512, 256]⟩
abbrev S64x4x3x128x256 : Shape := ⟨5, ![64, 4, 3, 128, 256]⟩
abbrev S64x16x3x32x256 : Shape := ⟨5, ![64, 16, 3, 32, 256]⟩
abbrev S512x1024 : Shape := ⟨2, ![512, 1024]⟩
abbrev S1x1x3x512x256 : Shape := ⟨5, ![1, 1, 3, 512, 256]⟩
abbrev S1x4x3x128x256 : Shape := ⟨5, ![1, 4, 3, 128, 256]⟩
abbrev S1x16x3x32x256 : Shape := ⟨5, ![1, 16, 3, 32, 256]⟩
abbrev S6x512x128 : Shape := ⟨3, ![6, 512, 128]⟩
abbrev S512x1 : Shape := ⟨2, ![512, 1]⟩
abbrev S512x256 : Shape := ⟨2, ![512, 256]⟩
abbrev S1x256 : Shape := ⟨2, ![1, 256]⟩
abbrev S512x128 : Shape := ⟨2, ![512, 128]⟩
abbrev S1x512x128 : Shape := ⟨3, ![1, 512, 128]⟩
abbrev S1x1x1x512x256 : Shape := ⟨5, ![1, 1, 1, 512, 256]⟩
abbrev S1x128x128 : Shape := ⟨3, ![1, 128, 128]⟩
abbrev S128x128 : Shape := ⟨2, ![128, 128]⟩
abbrev S128x256 : Shape := ⟨2, ![128, 256]⟩
abbrev S1x1x1x128x256 : Shape := ⟨5, ![1, 1, 1, 128, 256]⟩
abbrev S1x32x128 : Shape := ⟨3, ![1, 32, 128]⟩
abbrev S32x128 : Shape := ⟨2, ![32, 128]⟩
abbrev S32x256 : Shape := ⟨2, ![32, 256]⟩
abbrev S1x1x1x32x256 : Shape := ⟨5, ![1, 1, 1, 32, 256]⟩

abbrev nBuf : Space → Nat
  | .hbm => 116
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7644, .f32⟩
  | .hbm, ⟨3, _⟩ => ⟨S6x64, .f32⟩
  | .hbm, ⟨4, _⟩ => ⟨S1024x7644, .bf16⟩
  | .hbm, ⟨5, _⟩ => ⟨S1024x256, .bf16⟩
  | .hbm, ⟨6, _⟩ => ⟨S1024x256, .bf16⟩
  | .hbm, ⟨7, _⟩ => ⟨S1024x256, .bf16⟩
  | .hbm, ⟨8, _⟩ => ⟨S1024x768, .bf16⟩
  | .hbm, ⟨9, _⟩ => ⟨S_, .f32⟩
  | .hbm, ⟨10, _⟩ => ⟨S512, .f32⟩
  | .hbm, ⟨11, _⟩ => ⟨S_, .f32⟩
  | .hbm, ⟨12, _⟩ => ⟨S256, .f32⟩
  | .hbm, ⟨13, _⟩ => ⟨S768, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S4x64, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S768, .f32⟩
  | .hbm, ⟨30, _⟩ => ⟨S_, .f32⟩
  | .hbm, ⟨31, _⟩ => ⟨S768, .f32⟩
  | .hbm, ⟨32, _⟩ => ⟨S1x768, .f32⟩
  | .hbm, ⟨33, _⟩ => ⟨S1x768, .f32⟩
  | .hbm, ⟨34, _⟩ => ⟨S1x768, .f32⟩
  | .hbm, ⟨35, _⟩ => ⟨S3x768, .f32⟩
  | .hbm, ⟨36, _⟩ => ⟨S1024x256, .bf16⟩
  | .hbm, ⟨37, _⟩ => ⟨S1024x256, .bf16⟩
  | .hbm, ⟨38, _⟩ => ⟨S1024x256, .bf16⟩
  | .hbm, ⟨39, _⟩ => ⟨S1024x768, .bf16⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S256, .f32⟩
  | .hbm, ⟨44, _⟩ => ⟨S768, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S4x64, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S768, .f32⟩
  | .hbm, ⟨61, _⟩ => ⟨S_, .f32⟩
  | .hbm, ⟨62, _⟩ => ⟨S768, .f32⟩
  | .hbm, ⟨63, _⟩ => ⟨S1x768, .f32⟩
  | .hbm, ⟨64, _⟩ => ⟨S1x768, .f32⟩
  | .hbm, ⟨65, _⟩ => ⟨S1x768, .f32⟩
  | .hbm, ⟨66, _⟩ => ⟨S3x768, .f32⟩
  | .hbm, ⟨67, _⟩ => ⟨S1024x256, .bf16⟩
  | .hbm, ⟨68, _⟩ => ⟨S1024x256, .bf16⟩
  | .hbm, ⟨69, _⟩ => ⟨S1024x256, .bf16⟩
  | .hbm, ⟨70, _⟩ => ⟨S1024x768, .bf16⟩
  | .hbm, ⟨71, _⟩ => ⟨S_, .f32⟩
  | .hbm, ⟨72, _⟩ => ⟨S512, .f32⟩
  | .hbm, ⟨73, _⟩ => ⟨S_, .f32⟩
  | .hbm, ⟨74, _⟩ => ⟨S256, .f32⟩
  | .hbm, ⟨75, _⟩ => ⟨S768, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S4x64, .f32⟩
  | .hbm, ⟨80, _⟩ => ⟨S256, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S4x64, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S768, .f32⟩
  | .hbm, ⟨92, _⟩ => ⟨S_, .f32⟩
  | .hbm, ⟨93, _⟩ => ⟨S768, .f32⟩
  | .hbm, ⟨94, _⟩ => ⟨S1x768, .f32⟩
  | .hbm, ⟨95, _⟩ => ⟨S1x768, .f32⟩
  | .hbm, ⟨96, _⟩ => ⟨S1x768, .f32⟩
  | .hbm, ⟨97, _⟩ => ⟨S3x768, .f32⟩
  | .hbm, ⟨98, _⟩ => ⟨S256x256, .i32⟩
  | .hbm, ⟨99, _⟩ => ⟨S_, .i32⟩
  | .hbm, ⟨100, _⟩ => ⟨S256x256, .i32⟩
  | .hbm, ⟨101, _⟩ => ⟨S256x256, .i32⟩
  | .hbm, ⟨102, _⟩ => ⟨S256x256, .i32⟩
  | .hbm, ⟨103, _⟩ => ⟨S_, .i32⟩
  | .hbm, ⟨104, _⟩ => ⟨S256x256, .i32⟩
  | .hbm, ⟨105, _⟩ => ⟨S256x256, .i32⟩
  | .hbm, ⟨106, _⟩ => ⟨S256x256, .i1⟩
  | .hbm, ⟨107, _⟩ => ⟨S_, .bf16⟩
  | .hbm, ⟨108, _⟩ => ⟨S256x256, .bf16⟩
  | .hbm, ⟨109, _⟩ => ⟨S_, .bf16⟩
  | .hbm, ⟨110, _⟩ => ⟨S256x256, .bf16⟩
  | .hbm, ⟨111, _⟩ => ⟨S256x256, .bf16⟩
  | .hbm, ⟨112, _⟩ => ⟨S1x1024, .f32⟩
  | .hbm, ⟨113, _⟩ => ⟨S64x1x3x512x256, .bf16⟩
  | .hbm, ⟨114, _⟩ => ⟨S64x4x3x128x256, .bf16⟩
  | .hbm, ⟨115, _⟩ => ⟨S64x16x3x32x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S256x256, .bf16⟩
  | .local _ .vmem, ⟨4, _⟩ => ⟨S1024x768, .bf16⟩
  | .local _ .vmem, ⟨5, _⟩ => ⟨S3x768, .f32⟩
  | .local _ .vmem, ⟨6, _⟩ => ⟨S1024x768, .bf16⟩
  | .local _ .vmem, ⟨7, _⟩ => ⟨S3x768, .f32⟩
  | .local _ .vmem, ⟨8, _⟩ => ⟨S1024x768, .bf16⟩
  | .local _ .vmem, ⟨9, _⟩ => ⟨S3x768, .f32⟩
  | .local _ .vmem, ⟨10, _⟩ => ⟨S1x1x3x512x256, .bf16⟩
  | .local _ .vmem, ⟨11, _⟩ => ⟨S1x1x3x512x256, .bf16⟩
  | .local _ .vmem, ⟨12, _⟩ => ⟨S1x4x3x128x256, .bf16⟩
  | .local _ .vmem, ⟨13, _⟩ => ⟨S1x4x3x128x256, .bf16⟩
  | .local _ .vmem, ⟨14, _⟩ => ⟨S1x16x3x32x256, .bf16⟩
  | .local _ .vmem, ⟨15, _⟩ => ⟨S1x16x3x32x256, .bf16⟩
  | .local _ .vmem, ⟨16, _⟩ => ⟨S6x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_14 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_cst_16 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90_0 : Ref sig .tc := ⟨.hbm, 113, rfl⟩
abbrev main_v90_1 : Ref sig .tc := ⟨.hbm, 114, rfl⟩
abbrev main_v90_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x3x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x3x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x3x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S32768x1024 : Shape := ⟨2, ![32768, 1024]⟩
abbrev S1024 : Shape := ⟨1, ![1024]⟩
abbrev S1024x7644 : Shape := ⟨2, ![1024, 7644]⟩
abbrev S6x64 : Shape := ⟨2, ![6, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7644 : Shape := ⟨2, ![32768, 7644]⟩
abbrev S32768x2304 : Shape := ⟨2, ![32768, 2304]⟩
abbrev S32768x3x12x64 : Shape := ⟨4, ![32768, 3, 12, 64]⟩
abbrev S32768x1x12x64 : Shape := ⟨4, ![32768, 1, 12, 64]⟩
abbrev S32768x12x64 : Shape := ⟨3, ![32768, 12, 64]⟩
abbrev S1x64 : Shape := ⟨2, ![1, 64]⟩
abbrev S64 : Shape := ⟨1, ![64]⟩
abbrev S32768x12 : Shape := ⟨2, ![32768, 12]⟩
abbrev S32768x12x1 : Shape := ⟨3, ![32768, 12, 1]⟩
abbrev S1x1x64 : Shape := ⟨3, ![1, 1, 64]⟩
abbrev S32768x3x4x64 : Shape := ⟨4, ![32768, 3, 4, 64]⟩
abbrev S64x512x1x3x256 : Shape := ⟨5, ![64, 512, 1, 3, 256]⟩
abbrev S64x1x3x512x256 : Shape := ⟨5, ![64, 1, 3, 512, 256]⟩
abbrev S64x128x4x3x256 : Shape := ⟨5, ![64, 128, 4, 3, 256]⟩
abbrev S64x4x3x128x256 : Shape := ⟨5, ![64, 4, 3, 128, 256]⟩
abbrev S64x32x16x3x256 : Shape := ⟨5, ![64, 32, 16, 3, 256]⟩
abbrev S64x16x3x32x256 : Shape := ⟨5, ![64, 16, 3, 32, 256]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7644, .f32⟩
  | .hbm, ⟨3, _⟩ => ⟨S6x64, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x7644, .f32⟩
  | .hbm, ⟨21, _⟩ => ⟨S32768x2304, .f32⟩
  | .hbm, ⟨22, _⟩ => ⟨S32768x3x12x64, .f32⟩
  | .hbm, ⟨23, _⟩ => ⟨S32768x1x12x64, .f32⟩
  | .hbm, ⟨24, _⟩ => ⟨S32768x12x64, .f32⟩
  | .hbm, ⟨25, _⟩ => ⟨S1x64, .f32⟩
  | .hbm, ⟨26, _⟩ => ⟨S64, .f32⟩
  | .hbm, ⟨27, _⟩ => ⟨S32768x12x64, .f32⟩
  | .hbm, ⟨28, _⟩ => ⟨S_, .f32⟩
  | .hbm, ⟨29, _⟩ => ⟨S32768x12, .f32⟩
  | .hbm, ⟨30, _⟩ => ⟨S32768x12x1, .f32⟩
  | .hbm, ⟨31, _⟩ => ⟨S_, .f32⟩
  | .hbm, ⟨32, _⟩ => ⟨S32768x12x1, .f32⟩
  | .hbm, ⟨33, _⟩ => ⟨S32768x12x1, .f32⟩
  | .hbm, ⟨34, _⟩ => ⟨S_, .f32⟩
  | .hbm, ⟨35, _⟩ => ⟨S32768x12x1, .f32⟩
  | .hbm, ⟨36, _⟩ => ⟨S32768x12x1, .f32⟩
  | .hbm, ⟨37, _⟩ => ⟨S32768x12x1, .f32⟩
  | .hbm, ⟨38, _⟩ => ⟨S32768x12x64, .f32⟩
  | .hbm, ⟨39, _⟩ => ⟨S32768x12x64, .f32⟩
  | .hbm, ⟨40, _⟩ => ⟨S1x1x64, .f32⟩
  | .hbm, ⟨41, _⟩ => ⟨S32768x12x64, .f32⟩
  | .hbm, ⟨42, _⟩ => ⟨S32768x12x64, .f32⟩
  | .hbm, ⟨43, _⟩ => ⟨S_, .f32⟩
  | .hbm, ⟨44, _⟩ => ⟨S32768x12x64, .f32⟩
  | .hbm, ⟨45, _⟩ => ⟨S32768x12x64, .f32⟩
  | .hbm, ⟨46, _⟩ => ⟨S32768x1x12x64, .f32⟩
  | .hbm, ⟨47, _⟩ => ⟨S32768x12x64, .f32⟩
  | .hbm, ⟨48, _⟩ => ⟨S1x64, .f32⟩
  | .hbm, ⟨49, _⟩ => ⟨S64, .f32⟩
  | .hbm, ⟨50, _⟩ => ⟨S32768x12x64, .f32⟩
  | .hbm, ⟨51, _⟩ => ⟨S_, .f32⟩
  | .hbm, ⟨52, _⟩ => ⟨S32768x12, .f32⟩
  | .hbm, ⟨53, _⟩ => ⟨S32768x12x1, .f32⟩
  | .hbm, ⟨54, _⟩ => ⟨S_, .f32⟩
  | .hbm, ⟨55, _⟩ => ⟨S32768x12x1, .f32⟩
  | .hbm, ⟨56, _⟩ => ⟨S32768x12x1, .f32⟩
  | .hbm, ⟨57, _⟩ => ⟨S_, .f32⟩
  | .hbm, ⟨58, _⟩ => ⟨S32768x12x1, .f32⟩
  | .hbm, ⟨59, _⟩ => ⟨S32768x12x1, .f32⟩
  | .hbm, ⟨60, _⟩ => ⟨S32768x12x1, .f32⟩
  | .hbm, ⟨61, _⟩ => ⟨S32768x12x64, .f32⟩
  | .hbm, ⟨62, _⟩ => ⟨S32768x12x64, .f32⟩
  | .hbm, ⟨63, _⟩ => ⟨S1x1x64, .f32⟩
  | .hbm, ⟨64, _⟩ => ⟨S32768x12x64, .f32⟩
  | .hbm, ⟨65, _⟩ => ⟨S32768x12x64, .f32⟩
  | .hbm, ⟨66, _⟩ => ⟨S32768x1x12x64, .f32⟩
  | .hbm, ⟨67, _⟩ => ⟨S32768x12x64, .f32⟩
  | .hbm, ⟨68, _⟩ => ⟨S32768x1x12x64, .f32⟩
  | .hbm, ⟨69, _⟩ => ⟨S32768x1x12x64, .f32⟩
  | .hbm, ⟨70, _⟩ => ⟨S32768x1x12x64, .f32⟩
  | .hbm, ⟨71, _⟩ => ⟨S32768x3x12x64, .f32⟩
  | .hbm, ⟨72, _⟩ => ⟨S32768x3x4x64, .f32⟩
  | .hbm, ⟨73, _⟩ => ⟨S64x512x1x3x256, .f32⟩
  | .hbm, ⟨74, _⟩ => ⟨S64x1x3x512x256, .f32⟩
  | .hbm, ⟨75, _⟩ => ⟨S64x1x3x512x256, .bf16⟩
  | .hbm, ⟨76, _⟩ => ⟨S32768x3x4x64, .f32⟩
  | .hbm, ⟨77, _⟩ => ⟨S64x128x4x3x256, .f32⟩
  | .hbm, ⟨78, _⟩ => ⟨S64x4x3x128x256, .f32⟩
  | .hbm, ⟨79, _⟩ => ⟨S64x4x3x128x256, .bf16⟩
  | .hbm, ⟨80, _⟩ => ⟨S32768x3x4x64, .f32⟩
  | .hbm, ⟨81, _⟩ => ⟨S64x32x16x3x256, .f32⟩
  | .hbm, ⟨82, _⟩ => ⟨S64x16x3x32x256, .f32⟩
  | .hbm, ⟨83, _⟩ => ⟨S64x16x3x32x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== Proof.Keeps.lean ====
/-
  Programs that only read and write buffers the core holds.

  A kernel body whose operations are loads, stores, counted loops and branches runs without fault, and keeps what the
  core holds, as soon as every buffer it reads is held and every buffer it writes is held at contents nobody relies on.
  `Keeps c Own p` says this of one program `p` and one assertion `Own`; the rules below are one per form of statement,
  so that a body of any length is covered by following its text.
-/
module

public import proofs.«01_k».proof.Proof.Gen.Kernel
public import proofs.«01_k».proof.Proof.Gen.Kernel.Skeleton
public import Idealize.ShloMosaic.Lib.Tactic
public import Idealize.ShloMosaic.Lib.Pipeline.Kit

@[expose] public section

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Contents of the buffer under memref `M` on core `c`. -/
abbrev Bf (c : Dev nD) {sp : Space} {S : Shape} {e : EltTy} (M : Memref sig .tc sp S e) : Type := Buf (Elt F) (M.view.loc (c : Thread nD τ))

/-- The buffer under memref `M`, held whole on core `c` at contents `f`. -/
abbrev pt (c : Dev nD) {sp : Space} {S : Shape} {e : EltTy} (M : Memref sig .tc sp S e) (f : Bf (F := F) c M) : sProp 𝕄 :=
  M.view.loc (c : Thread nD τ) ↦{fullShare} f

/-- The buffer under memref `M`, held whole on core `c` at contents not named. -/
abbrev any (c : Dev nD) {sp : Space} {S : Shape} {e : EltTy} (M : Memref sig .tc sp S e) : sProp 𝕄 :=
  iprop(∃ f : Bf (F := F) c M, pt c M f)

/-- `Own` holds `M`'s buffer at some contents, and is whole again once it is given back as it was. -/
def Reads (c : Dev nD) (Own : sProp 𝕄) {sp : Space} {S : Shape} {e : EltTy} (M : Memref sig .tc sp S e) : Prop :=
  Own ⊢ iprop(∃ f : Bf (F := F) c M, pt c M f ∗ (pt c M f -∗ Own))

/-- `Own` holds `M`'s buffer at some contents, and is whole again once it is given back at any contents. -/
def Writes (c : Dev nD) (Own : sProp 𝕄) {sp : Space} {S : Shape} {e : EltTy} (M : Memref sig .tc sp S e) : Prop :=
  Own ⊢ iprop(∃ f : Bf (F := F) c M, pt c M f ∗ (any c M -∗ Own))

/-- A buffer that may be written may be read. -/
theorem Writes.reads {c : Dev nD} {Own : sProp 𝕄} {sp : Space} {S : Shape} {e : EltTy} {M : Memref sig .tc sp S e}
    (h : Writes (F := F) c Own M) : Reads (F := F) c Own M := by
  refine BIBase.Entails.trans h ?_
  iintro ⟨%f, Hf, Hk⟩
  iexists f
  isplitl [Hf]; · iexact Hf
  iintro Hf
  iapply Hk
  iexists f; iexact Hf

/-- From `Own` the program `p` runs to its return, faulting nowhere, and hands `Own` back. -/
def Keeps (c : Dev nD) (Own : sProp 𝕄) {α : Type} (p : Prog (TpuEff nD τ sig (Elt F) Λ₀ .tc) α) : Prop :=
  Own ⊢ wp frame (wpE (defs₀ (F := F)) Variants.none c none) Set.univ p (fun _ => Own)

/-! ## One rule per form of statement -/

/-- A return. -/
theorem keeps_pure {c : Dev nD} {Own : sProp 𝕄} {α : Type} (a : α) : Keeps (F := F) c Own (pure a) := by
  unfold Keeps
  rw [show (pure a : Prog (TpuEff nD τ sig (Elt F) Λ₀ .tc) α) = .ret a from rfl, wp_ret]
  iintro H
  imodintro
  iexact H

/-- One program after another. -/
theorem keeps_bind {c : Dev nD} {Own : sProp 𝕄} {α β : Type} {p : Prog (TpuEff nD τ sig (Elt F) Λ₀ .tc) α} {k : α → Prog (TpuEff nD τ sig (Elt F) Λ₀ .tc) β}
    (hp : Keeps (F := F) c Own p) (hk : ∀ a, Keeps (F := F) c Own (k a)) : Keeps (F := F) c Own (p >>= k) := by
  unfold Keeps at hp ⊢
  have hk : ∀ a, Own ⊢ wp frame (wpE (defs₀ (F := F)) Variants.none c none) Set.univ (k a) (fun _ => Own) := hk
  rw [wp_bind]
  exact hp.trans (wp_mono _ _ _ fun a => hk a)

/-- A load of a buffer that may be read. -/
theorem keeps_load {c : Dev nD} {Own : sProp 𝕄} {sp : CoreSpace} {S : Shape} {e : EltTy} {M : Memref sig .tc sp S e} {r : LoadRect S} {hl : M.view.LoadsAt r}
    (hM : Reads (F := F) c Own M) :
    Keeps (F := F) c Own (Prog.lift (.load M r hl) : Prog (TpuEff nD τ sig (Elt F) Λ₀ .tc) _) := by
  unfold Keeps
  refine BIBase.Entails.trans hM ?_
  iintro ⟨%f, Hf, Hk⟩
  iapply (wp_load Variants.none (c : Thread nD τ) none Set.univ (S := Finset.univ) (f := f) (Finset.subset_univ _)) $$ Hf
  iintro Hf
  rw [wp_ret]
  imodintro
  iapply Hk
  iexact Hf

/-- A store into a buffer that may be written. -/
theorem keeps_store {c : Dev nD} {Own : sProp 𝕄} {sp : CoreSpace} {S : Shape} {e : EltTy} {M : Memref sig .tc sp S e} {r : Rect S} {w : r.shape.Idx → Elt F e}
    {Mk : Finset r.shape.Idx} {hx : (M.access r).Stores Mk} {hm : Mk = Finset.univ ∨ ∀ a, r.stride a = 1}
    (hM : Writes (F := F) c Own M) :
    Keeps (F := F) c Own (Prog.lift (.store M r w Mk hx hm) : Prog (TpuEff nD τ sig (Elt F) Λ₀ .tc) _) := by
  unfold Keeps
  refine BIBase.Entails.trans hM ?_
  iintro ⟨%f, Hf, Hk⟩
  iapply (wp_store Variants.none (c : Thread nD τ) none Set.univ (m := M) (r := r) (w := w) (Mk := Mk) (hx := hx) (hm := hm)
    (S := Finset.univ) (f := f) (Finset.subset_univ _)) $$ Hf
  iintro Hf
  rw [wp_ret]
  imodintro
  iapply Hk
  iexists _; iexact Hf

/-- A counted loop, its carried values whatever they are. -/
theorem keeps_for {c : Dev nD} {Own : sProp 𝕄} {σ : Type} {wd : Nat} {l : Scf.Loop wd} {hok : l.OK} {init : σ}
    {body : Fin l.trips → σ → Prog (TpuEff nD τ sig (Elt F) Λ₀ .tc) σ}
    (hb : ∀ k acc, Keeps (F := F) c Own (body k acc)) : Keeps (F := F) c Own (Scf.Loop.for l hok init body) := by
  unfold Keeps at hb ⊢
  have h := Scf.wp_for (Fr := frame) (wpE := wpE (defs₀ (F := F)) Variants.none c none) (Es := Set.univ) l.lb l.ub l.st hok init body
    (fun _ _ => Own) hb (Q := fun _ => Own)
  refine BIBase.Entails.trans ?_ h
  iintro H
  isplitl [H]; · iexact H
  iintro %acc H
  iexact H

/-- A branch, its condition whatever it is. -/
theorem keeps_dite {c : Dev nD} {Own : sProp 𝕄} {α : Type} {q : Prop} {dq : Decidable q} {p₁ : q → Prog (TpuEff nD τ sig (Elt F) Λ₀ .tc) α}
    {p₂ : ¬q → Prog (TpuEff nD τ sig (Elt F) Λ₀ .tc) α}
    (h₁ : ∀ h, Keeps (F := F) c Own (p₁ h)) (h₂ : ∀ h, Keeps (F := F) c Own (p₂ h)) :
    Keeps (F := F) c Own (if h : q then p₁ h else p₂ h) := by
  split
  · exact h₁ _
  · exact h₂ _

/-- A branch that does not name its condition. -/
theorem keeps_ite {c : Dev nD} {Own : sProp 𝕄} {α : Type} {q : Prop} {dq : Decidable q} {p₁ p₂ : Prog (TpuEff nD τ sig (Elt F) Λ₀ .tc) α}
    (h₁ : Keeps (F := F) c Own p₁) (h₂ : Keeps (F := F) c Own p₂) : Keeps (F := F) c Own (if q then p₁ else p₂) := by
  split
  · exact h₁
  · exact h₂

end Cert.Proof.Dsa

end
-- ==== Proof.DsaBody.lean ====
/-
  The body of the sparse-attention call keeps what the core holds: its statements are followed one after another by the
  rules of `Keeps`, the printed parts of the body opened as they are met. Every branch of the three switches is covered.
-/
module

public import proofs.«01_k».proof.Proof.Keeps

@[expose] public section

set_option maxRecDepth 65536

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

set_option maxHeartbeats 40000000 in
theorem body_keeps (c : Dev nD) (Own : sProp 𝕄) (i : grid0.Coords) (arg2 : Memref sig .tc .vmem S512x256 .bf16) (harg2 : arg2.IsWhole) (arg3 : Memref sig .tc .vmem S8x512 .f32) (harg3 : arg3.IsWhole) (arg4 : Memref sig .tc .vmem S4096x128 .bf16) (harg4 : arg4.IsWhole) (arg5 : Memref sig .tc .vmem S512x512 .bf16) (harg5 : arg5.IsWhole) (arg6 : Memref sig .tc .vmem S4096x128 .bf16) (harg6 : arg6.IsWhole) (arg7 : Memref sig .tc .vmem S32x128x128 .bf16) (harg7 : arg7.IsWhole) (arg8 : Memref sig .tc .vmem S112x128x128 .f32) (harg8 : arg8.IsWhole) (arg9 : Memref sig .tc .vmem S512x512 .bf16) (harg9 : arg9.IsWhole) (arg10 : Memref sig .tc .vmem S32x128x512 .i32) (harg10 : arg10.IsWhole) (arg11 : Memref sig .tc .vmem S32x128x512 .i16) (harg11 : arg11.IsWhole) (arg12 : Memref sig .tc .vmem S2048x64 .bf16) (harg12 : arg12.IsWhole) (arg13 : Memref sig .tc .vmem S4x1024x64 .bf16) (harg13 : arg13.IsWhole) (arg14 : Memref sig .tc .vmem S4x8x1024 .f32) (harg14 : arg14.IsWhole) (arg15 : Memref sig .tc .vmem S4x128x1024 .f32) (harg15 : arg15.IsWhole)
  (h2 : Reads (F := F) c Own arg2) (h3 : Reads (F := F) c Own arg3) (h4 : Reads (F := F) c Own arg4)
  (h5 : Reads (F := F) c Own arg5) (h6 : Reads (F := F) c Own arg6) (h7 : Reads (F := F) c Own arg7) (h8 : Reads (F := F) c Own arg8)
  (w9 : Writes (F := F) c Own arg9) (w10 : Writes (F := F) c Own arg10) (w11 : Writes (F := F) c Own arg11) (w12 : Writes (F := F) c Own arg12)
  (w13 : Writes (F := F) c Own arg13) (w14 : Writes (F := F) c Own arg14) (w15 : Writes (F := F) c Own arg15) :
   Keeps c Own (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15) := by

  delta cc0_dsa
  beta_reduce
  repeat' first
    | with_reducible exact keeps_pure _
    | with_reducible refine keeps_bind ?_ (fun _ => ?_)
    | with_reducible refine keeps_dite (fun _ => ?_) (fun _ => ?_)
    | with_reducible refine keeps_ite ?_ ?_
    | with_reducible refine keeps_for (fun _ _ => ?_)
    | with_reducible refine keeps_store (by assumption)
    | with_reducible refine keeps_load (by assumption)
    | with_reducible refine keeps_load (Writes.reads (by assumption))
    | delta k0_part1 k0_part2 k0_part3 k0_part4 k0_part5 k0_part6 k0_part7 k0_part8 k0_part9 k0_part10 k0_part11
         k0_part12 k0_part13 k0_part14 k0_part15 k0_part16 k0_part17 k0_part18 k0_part19 k0_part20 k0_part21 k0_part22
         k0_part23 k0_part24 k0_part25 k0_part26 k0_part27 k0_part28 k0_part29 k0_part30 k0_part31 k0_part32 k0_part33
         k0_part34 k0_part35 k0_part36 k0_part37 k0_part38 k0_part39 k0_part40 k0_part41 k0_part42 k0_part43 k0_part44
         k0_part45 k0_part46 k0_part47 k0_part48 k0_part49 k0_part50 k0_part51 k0_part52 k0_part53 k0_part54 k0_part55
         k0_part56 k0_part57 k0_part58 k0_part59 k0_part60 k0_part61 k0_part62 k0_part63 k0_part64 k0_part65 k0_part66
         k0_part67 k0_part68 k0_part69 k0_part70 k0_part71 k0_part72 k0_part73 k0_part74 k0_part75 k0_part76 k0_part77
         k0_part78 k0_part79 k0_part80 k0_part81 k0_part82 k0_part83 k0_part84 k0_part85 k0_part86 k0_part87 k0_part88
         k0_part89 k0_part90 k0_part91 k0_part92 k0_part93 k0_part94 k0_part95 k0_part96 k0_part97 k0_part98 k0_part99
         k0_part100 k0_part101 k0_part102 k0_part103 k0_part104 k0_part105 k0_part106 k0_part107 k0_part108 k0_part109
         k0_part110 k0_part111 k0_part112 k0_part113 k0_part114 k0_part115 k0_part116 k0_part117 k0_part118 k0_part119
         k0_part120 k0_part121 k0_part122 k0_part123 k0_part124 k0_part125 k0_part126 k0_part127 k0_part128 k0_part129
         k0_part130 k0_part131 k0_part132 k0_part133 k0_part134 k0_part135 k0_part136 k0_part137 k0_part138 k0_part139
         k0_part140 k0_part141 k0_part142 k0_part143 k0_part144 k0_part145 k0_part146 k0_part147 k0_part148 k0_part149
         k0_part150 k0_part151 k0_part152 k0_part153 k0_part154 k0_part155 k0_part156 k0_part157 k0_part158 k0_part159
         k0_part160 k0_part161 k0_part162 k0_part163 k0_part164 k0_part165 k0_part166 k0_part167 k0_part168 k0_part169
         k0_part170 k0_part171 k0_part172 k0_part173 k0_part174 k0_part175 k0_part176 k0_part177 k0_part178 k0_part179
         k0_part180 k0_part181 k0_part182 k0_part183 k0_part184 k0_part185 k0_part186 k0_part187 k0_part188 k0_part189
         k0_part190 k0_part191 k0_part192 k0_part193 k0_part194 k0_part195 k0_part196 k0_part197 k0_part198 k0_part199
         k0_part200 k0_part201 k0_part202 k0_part203 k0_part204 k0_part205 k0_part206 k0_part207 k0_part208 k0_part209
         k0_part210 k0_part211 k0_part212 k0_part213 k0_part214 k0_part215 k0_part216 k0_part217 k0_part218 k0_part219
         k0_part220 k0_part221 k0_part222 k0_part223 k0_part224 k0_part225 k0_part226 k0_part227 k0_part228 k0_part229
         k0_part230 k0_part231 k0_part232 k0_part233 k0_part234 k0_part235 k0_part236 k0_part237 k0_part238 k0_part239
         k0_part240 k0_part241 k0_part242 k0_part243 k0_part244 k0_part245 k0_part246 k0_part247 k0_part248 k0_part249
         k0_part250 k0_part251 k0_part252 k0_part253 k0_part254 k0_part255 k0_part256 k0_part257 k0_part258 k0_part259
         k0_part260 k0_part261 k0_part262 k0_part263 k0_part264 k0_part265 k0_part266 k0_part267 k0_part268 k0_part269
         k0_part270 k0_part271 k0_part272 k0_part273 k0_part274 k0_part275 k0_part276 k0_part277 k0_part278 k0_part279
         k0_part280 k0_part281 k0_part282 k0_part283 k0_part284 k0_part285 k0_part286 k0_part287 k0_part288 k0_part289
         k0_part290 k0_part291 k0_part292 k0_part293 k0_part294 k0_part295 k0_part296 k0_part297 k0_part298 k0_part299
         k0_part300 k0_part301 k0_part302 k0_part303 k0_part304 k0_part305 k0_part306 k0_part307 k0_part308 k0_part309
         k0_part310 k0_part311 k0_part312 k0_part313 k0_part314 k0_part315 k0_part316 k0_part317 k0_part318 k0_part319
         k0_part320 k0_part321 k0_part322 k0_part323 k0_part324 k0_part325 k0_part326

end Cert.Proof.Dsa

end
-- ==== Proof.DsaRun.lean ====
/-
  The frame of the sparse-attention call: its launch over the grid, with the body's run taken from `DsaBody`.

  At every grid point the core holds the seven input blocks as fetched, the result's block at contents the claim does
  not read, and the scratch buffers at contents carried from point to point without being named. The body keeps all of
  this, so the launch runs to the end, the arguments are unchanged and every semaphore is back at zero.
-/
module

public import proofs.«01_k».proof.Proof.DsaBody
public import proofs.«01_k».proof.Proof.Gen.Kernel.Frame
public import Idealize.ShloMosaic.Lib.Pipeline.FrameBody

@[expose] public section

set_option maxRecDepth 16384

noncomputable section

namespace Cert.Proof.Dsa

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## From a conjunction to its parts -/

theorem Reads.left {c : Dev nD} {P R : sProp 𝕄} {sp : Space} {S : Shape} {e : EltTy} {M : Memref sig .tc sp S e}
    (h : Reads (F := F) c P M) : Reads (F := F) c iprop(P ∗ R) M := by
  unfold Reads at *
  iintro ⟨HP, HR⟩
  ihave H := h $$ HP
  icases H with ⟨%f, Hf, Hk⟩
  iexists f
  isplitl [Hf]; · iexact Hf
  iintro Hf
  isplitl [Hf Hk]
  · iapply Hk; iexact Hf
  iexact HR

theorem Reads.right {c : Dev nD} {P R : sProp 𝕄} {sp : Space} {S : Shape} {e : EltTy} {M : Memref sig .tc sp S e}
    (h : Reads (F := F) c R M) : Reads (F := F) c iprop(P ∗ R) M := by
  unfold Reads at *
  iintro ⟨HP, HR⟩
  ihave H := h $$ HR
  icases H with ⟨%f, Hf, Hk⟩
  iexists f
  isplitl [Hf]; · iexact Hf
  iintro Hf
  isplitl [HP]; · iexact HP
  iapply Hk; iexact Hf

theorem Writes.left {c : Dev nD} {P R : sProp 𝕄} {sp : Space} {S : Shape} {e : EltTy} {M : Memref sig .tc sp S e}
    (h : Writes (F := F) c P M) : Writes (F := F) c iprop(P ∗ R) M := by
  unfold Writes at *
  iintro ⟨HP, HR⟩
  ihave H := h $$ HP
  icases H with ⟨%f, Hf, Hk⟩
  iexists f
  isplitl [Hf]; · iexact Hf
  iintro Hf
  isplitl [Hf Hk]
  · iapply Hk; iexact Hf
  iexact HR

theorem Writes.right {c : Dev nD} {P R : sProp 𝕄} {sp : Space} {S : Shape} {e : EltTy} {M : Memref sig .tc sp S e}
    (h : Writes (F := F) c R M) : Writes (F := F) c iprop(P ∗ R) M := by
  unfold Writes at *
  iintro ⟨HP, HR⟩
  ihave H := h $$ HR
  icases H with ⟨%f, Hf, Hk⟩
  iexists f
  isplitl [Hf]; · iexact Hf
  iintro Hf
  isplitl [HP]; · iexact HP
  iapply Hk; iexact Hf

/-! ## The three ways a buffer is held -/

/-- A whole memref held at named contents may be read. -/
theorem reads_owns {c : Dev nD} {sp : Space} {S : Shape} {e : EltTy} {M : Memref sig .tc sp S e} (hM : M.IsWhole)
    (X : S.Idx → Elt F e) : Reads (F := F) c (owns (c : Thread nD τ) M fullShare X) M := by
  unfold Reads owns
  rw [hM.set_eq_univ]
  iintro ⟨%f, %hf, Hf⟩
  iexists f
  isplitl [Hf]; · iexact Hf
  iintro Hf
  iexists f
  isplitr; · ipureintro; exact hf
  iexact Hf

/-- A whole memref held at contents not named may be written. -/
theorem writes_owns {c : Dev nD} {sp : Space} {S : Shape} {e : EltTy} {M : Memref sig .tc sp S e} (hM : M.IsWhole) :
    Writes (F := F) c iprop(∃ X : S.Idx → Elt F e, owns (c : Thread nD τ) M fullShare X) M := by
  unfold Writes owns
  rw [hM.set_eq_univ]
  iintro ⟨%X, %f, -, Hf⟩
  iexists f
  isplitl [Hf]; · iexact Hf
  iintro ⟨%f', Hf⟩
  iexists (M.view.read (Elt F) f')
  iexists f'
  isplitr; · ipureintro; rfl
  iexact Hf

/-- A scratch buffer held at contents not named may be written. -/
theorem writes_scratch {c : Dev nD} (b : Ref sig .tc) :
    Writes (F := F) c iprop(∃ f : Buf (Elt F) ((c : Thread nD τ).loc b), ((c : Thread nD τ).loc b) ↦{fullShare} f) (Memref.whole b) := by
  unfold Writes
  iintro ⟨%f, Hf⟩
  iexists f
  isplitl [Hf]; · iexact Hf
  iintro ⟨%f', Hf⟩
  iexists f'
  iexact Hf

variable (m : (ℓ : Loc nD τ sig) → Buf (Elt F) ℓ) (ρ : Dev nD → PrngReg)

/-! ## The proof data of the launch -/

/-- The window whose contents the claim does not read: the result's. -/
def fgt : Fin cfg0.W → Bool := fun | 7 => true | _ => false

/-- Each input window holds its block after the body as before it; the result's window is not named (the entry here is
    never read); the scratch buffers stand at some contents; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the core holds at point `t`, before the body and after it. -/
def held (c : Dev nD) (t : Fin cfg0.N) : sProp 𝕄 :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ ∃ X, owns (c : Thread nD τ) (st0_7 t) fullShare X)

/-- The body at point `t` keeps what the core holds. -/
theorem body_at (c : Dev nD) (t : Fin cfg0.N) : Keeps (F := F) c (held m c t) (bodyAt0 t) := by
  unfold bodyAt0
  have hs : ∀ (b : Ref sig .tc), Writes (F := F) c (Pipeline.scopedRest (Ix := Unit) (Name := ℕ) (U := UR sig nD τ) (Lvl := ℕ) (Val := Elt F) spec0 c) (Memref.whole b)
      → Writes (F := F) c (held m c t) (Memref.whole b) := fun b h => by
    unfold held Pipeline.ΦA
    exact .left (.left h)
  refine body_keeps c (held m c t) (grid0.coords t) _ _ _ _ _ _ _ _ _ _ _ _ _ _ _ _ _ _ _ _ _ _ _ _ _ _ _ _
    ?_ ?_ ?_ ?_ ?_ ?_ ?_ ?_ (hs _ ?_) (hs _ ?_) (hs _ ?_) (hs _ ?_) (hs _ ?_) (hs _ ?_)
  · exact .right (.right (.left (reads_owns (hstage0_0 _) _)))
  · exact .right (.right (.right (.left (reads_owns (hstage0_1 _) _))))
  · exact .right (.right (.right (.right (.left (reads_owns (hstage0_2 _) _)))))
  · exact .right (.right (.right (.right (.right (.left (reads_owns (hstage0_3 _) _))))))
  · exact .right (.right (.right (.right (.right (.right (.left (reads_owns (hstage0_4 _) _)))))))
  · exact .right (.right (.right (.right (.right (.right (.right (.left (reads_owns (hstage0_5 _) _))))))))
  · exact .right (.right (.right (.right (.right (.right (.right (.right (.left (reads_owns (hstage0_6 _) _)))))))))
  · exact .right (.right (.right (.right (.right (.right (.right (.right (.right (writes_owns (hstage0_7 _))))))))))
  all_goals rw [scopedRest0_eq]
  · exact .left (writes_scratch _)
  · exact .right (.left (writes_scratch _))
  · exact .right (.right (.left (writes_scratch _)))
  · exact .right (.right (.right (.left (writes_scratch _))))
  · exact .right (.right (.right (.right (.left (writes_scratch _)))))
  · exact .right (.right (.right (.right (.right (writes_scratch _)))))

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d

/-- What the body is handed at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- From what the body is handed it runs and leaves what `held` lists. -/
theorem sound_body (c : Dev nD) (t : Fin cfg0.N) :
    bodyPre m c t ⊢ wp frame (wpE (defs₀ (F := F)) Variants.none c none) Set.univ (bodyAt0 t) (fun _ => held m c t) := by
  refine BIBase.Entails.trans ?_ (body_at m c t)
  unfold bodyPre held
  simp only [before_0, before_1, before_2, before_3, before_4, before_5, before_6]
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩, ⟨%d6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the launch, the result's window forgotten. -/
theorem body_obligation (c : Dev nD) :
    BodyObligation (dats (F := F) m 0 c) (defs₀ (F := F)) Variants.none () Set.univ fgt := fun t => by
  rw [bigSep_W0, bigSep_W0, row]
  exact triple_restated (sound_body m c t) rfl .rfl fun _ => .rfl

-- the launch theorem's implicit arguments are found by unifying its conclusion with this one, which takes unfolding plain
-- definitions in a metavariable's type
set_option backward.isDefEq.respectTransparency.types false in
set_option maxHeartbeats 800000 in
/-- Every execution of the call terminates without fault, the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => ⟨fun c => ⟨h.1.arr_in c 0 rfl, h.1.arr_in c 1 rfl, h.1.arr_in c 2 rfl, h.1.arr_in c 3 rfl,
      h.1.arr_in c 4 rfl, h.1.arr_in c 5 rfl, h.1.arr_in c 6 rfl⟩, h.2⟩)

end Cert.Proof.Dsa

end
-- ==== Proof.Rows.lean ====
/-
  What the calls have in common over the extended reals: a row divided by its root mean square, and the sigmoid.
-/
module

public import Idealize.ShloMosaic.Lib.IdealHost

@[expose] public section

noncomputable section

namespace Cert.Proof.Rows

open Idealize.ShloMosaic

/-- A sigmoid's denominator is never zero. -/
theorem one_add_exp_ne (a : EReal) : 1 + Ideal.exp a ≠ 0 := by
  have h : (0 : EReal) ≤ Ideal.exp a := by
    induction a using EReal.rec with
    | bot => exact le_rfl
    | top => exact le_top
    | coe r => exact EReal.coe_nonneg.mpr (Real.exp_pos r).le
  exact (lt_of_lt_of_le zero_lt_one (le_add_of_nonneg_right h)).ne'

/-- Column `k` of a row divided by the row's root mean square and scaled. -/
def normed (x : Fin 1024 → EReal) (g : Fin 1024 → EReal) (k : Fin 1024) : EReal :=
  x k * Ideal.rsqrt (Ideal.div (∑ k', x k' * x k') (Ideal.ofBits .f32 0x44800000#32) + Ideal.ofBits .f32 0x358637BD#32) * g k

end Cert.Proof.Rows

end
-- ==== Proof.Ffn.lean ====
/-
  The feed-forward call over the extended reals.

  `ffn` is what one element of the result is, written out: the row is divided by its root mean square and scaled, two
  products with the halves of the first weight give the gate and the value, and the gated values go through the second
  weight and are added to the row. The reference's result is `ffn` at every element, and so is the kernel's: the block of
  256 rows a grid point writes is `ffn` of the rows that the point fetched, and the blocks fill the array.
-/
module

public import proofs.«01_k».proof.Proof.Gen.Kernel2Ideal.Value
public import proofs.«01_k».proof.Proof.Gen.Reference2Ideal.Run
public import proofs.«01_k».proof.Proof.Rows
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

namespace Cert.Proof.Ffn

open Idealize.ShloMosaic Idealize.ShloMosaic.TcCoe Idealize.SL.Sem Cert.Proof.Rows

/-- Column `l` of one row's result. -/
def ffnRow (x g : Fin 1024 → EReal) (wg wu : Fin 1024 → Fin 2816 → EReal) (wo : Fin 2816 → Fin 1024 → EReal) (l : Fin 1024) : EReal :=
  x l + ∑ j : Fin 2816,
    ((∑ k, normed x g k * wg k j) * Ideal.div 1 (1 + Ideal.exp (-∑ k, normed x g k * wg k j)) * ∑ k, normed x g k * wu k j) * wo j l

/-- The result at an element, from the four arguments. -/
def ffn (x : Cert.Reference2Ideal.S32768x1024.Idx → EReal) (g : Cert.Reference2Ideal.S1024.Idx → EReal)
    (wi : Cert.Reference2Ideal.S1024x5632.Idx → EReal) (wo : Cert.Reference2Ideal.S2816x1024.Idx → EReal)
    (i : Cert.Reference2Ideal.S32768x1024.Idx) : EReal :=
  ffnRow (fun k => x (ix2 (i 0) k)) (fun k => g (ix1 k)) (fun k j => wi (ix2 k ⟨j, by omega⟩))
    (fun k j => wi (ix2 k ⟨2816 + j, by omega⟩)) (fun j l => wo (ix2 j l)) (i 1)

/-- What the body stores, at one element. -/
theorem pay_apply (x : Vec Ideal Cert.Kernel2Ideal.S256x1024 .f32) (g : Vec Ideal Cert.Kernel2Ideal.S1x1024 .f32)
    (wg wu : Vec Ideal Cert.Kernel2Ideal.S1024x2816 .bf16) (wo : Vec Ideal Cert.Kernel2Ideal.S2816x1024 .bf16)
    (r : Fin 256) (l : Fin 1024) :
    Cert.Kernel2Ideal.Gen.k0_pay1 (F := Ideal) x g wg wu wo (ix2 r l)
      = ffnRow (fun k => x (ix2 r k)) (fun k => g (ix2 0 k)) (fun k j => wg (ix2 k j)) (fun k j => wu (ix2 k j))
          (fun j l => wo (ix2 j l)) l := by
  pointwise [Cert.Kernel2Ideal.Gen.k0_pay1, ffnRow, normed]
  simp only [zero_sub, Ideal.mul_one_div (one_add_exp_ne _)]

/-- The reference's result, at every element. -/
theorem ref_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ fun r => ∀ c : Dev Cert.Reference2Ideal.nD,
      r.2.mem (c.tc.loc Cert.Reference2Ideal.main_v19)
          = ffn (m (c.tc.loc Cert.Reference2Ideal.main_arg0)) (m (c.tc.loc Cert.Reference2Ideal.main_arg1))
              (m (c.tc.loc Cert.Reference2Ideal.main_arg2)) (m (c.tc.loc Cert.Reference2Ideal.main_arg3))
      ∧ r.2.mem (c.tc.loc Cert.Reference2Ideal.main_arg0) = m (c.tc.loc Cert.Reference2Ideal.main_arg0)
      ∧ r.2.mem (c.tc.loc Cert.Reference2Ideal.main_arg1) = m (c.tc.loc Cert.Reference2Ideal.main_arg1)
      ∧ r.2.mem (c.tc.loc Cert.Reference2Ideal.main_arg2) = m (c.tc.loc Cert.Reference2Ideal.main_arg2)
      ∧ r.2.mem (c.tc.loc Cert.Reference2Ideal.main_arg3) = m (c.tc.loc Cert.Reference2Ideal.main_arg3) := by
  refine (θ_run (Cert.Reference2Ideal.defs (F := Ideal)) _ _).mono (fun r h c => ⟨(h c).1.trans ?_, (h c).2⟩)
    (Cert.Reference2Ideal.Value.run (F := Ideal) m ρ)
  funext i
  obtain ⟨r, l, rfl⟩ : ∃ r l, i = ix2 r l := ⟨i 0, i 1, eq_ix2 i⟩
  pointwise [ffn, ffnRow, normed]

open Cert.Kernel2Ideal Cert.Kernel2Ideal.Gen in
/-- Which block each window is on at a grid point. -/
theorem idx (t : Fin cfg0.N) : win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] :=
  (by decide +kernel : ∀ t : Fin grid0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0]) t

open Cert.Kernel2Ideal Cert.Kernel2Ideal.Gen in
/-- The array the kernel leaves. -/
theorem final (m : (ℓ : Loc nD τ sig) → Buf (Elt Ideal) ℓ) (c : Dev nD) :
    (dats (F := Ideal) m 0 c).arrAt 5 cfg0.N
      = ffn (m (c.tc.loc main_arg0)) (m (c.tc.loc main_arg1)) (m (c.tc.loc main_arg2)) (m (c.tc.loc main_arg3)) := by
  refine (dats (F := Ideal) m 0 c).arrAt_eq_of_covers 5 _ (by decide +kernel) fun t hf y => ?_
  blk_simp
  rw [after0_5]
  frame_out
  idx_vars y
  obtain ⟨e0, e1, e2, e3, e4, e5⟩ := idx t
  rw [pay_apply]
  unfold ffn
  have hr : ((((View.whole main_v6).slice (win0_5.rect t)).emb (ix2 y0 y1)) 1 : Fin 1024) = y1 := by
    apply Fin.ext
    blk_simp [e5]
  rw [hr]
  congr 1
  · funext k
    blk_ext [iblk, V, e0, e5]
  · funext k
    blk_ext! [iblk, V, e1]
  · funext k j
    blk_ext! [iblk, V, e2]
  · funext k j
    blk_ext! [iblk, V, e3]
  · funext k j
    blk_ext [iblk, V, e4]

end Cert.Proof.Ffn

end
-- ==== Proof.Gate.lean ====
/-
  The projection to the branches' gates, over the extended reals.

  `gate` is one element of the result written out: the row is divided by its root mean square and scaled, multiplied by
  one of the last 3072 columns of the weight, and put through the sigmoid. The reference's result is `gate` at every
  element. The kernel's body writes its block of 512 rows in twelve pieces of 256 columns, each of which is `gate` there,
  and the blocks fill the array.
-/
module

public import proofs.«01_k».proof.Proof.Gen.Kernel3Ideal.Value
public import proofs.«01_k».proof.Proof.Gen.Reference3Ideal.Run
public import proofs.«01_k».proof.Proof.Rows
public import Idealize.ShloMosaic.Lib.Pointwise
public import Idealize.ShloMosaic.Lib.Claim
public import Idealize.ShloMosaic.Lib.IdealHost
public import Idealize.ShloMosaic.Lib.Pipeline.ValueKit

@[expose] public section

set_option maxRecDepth 16384

noncomputable section

namespace Cert.Proof.Gate

open Idealize.ShloMosaic Idealize.ShloMosaic.TcCoe Idealize.SL.Sem Cert.Proof.Rows

/-- One row's gate, from the column of the weight. -/
def gateRow (x g w : Fin 1024 → EReal) : EReal := Ideal.div 1 (1 + Ideal.exp (-∑ k, normed x g k * w k))

/-- The column of the weight that column `l` of the result comes from. -/
def col (l : Fin 3072) : Fin 7644 := ⟨4572 + l, by omega⟩

/-- The result at an element, from the three arguments. -/
def gate (x : Cert.Reference3Ideal.S32768x1024.Idx → EReal) (g : Cert.Reference3Ideal.S1024.Idx → EReal)
    (w : Cert.Reference3Ideal.S1024x7644.Idx → EReal) (i : Cert.Reference3Ideal.S32768x3072.Idx) : EReal :=
  gateRow (fun k => x (ix2 (i 0) k)) (fun k => g (ix1 k)) (fun k => w (ix2 k (col (i 1))))

/-- The reference's result, at every element. -/
theorem ref_run (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ fun r => ∀ c : Dev Cert.Reference3Ideal.nD,
      r.2.mem (c.tc.loc Cert.Reference3Ideal.main_v21)
          = gate (m (c.tc.loc Cert.Reference3Ideal.main_arg0)) (m (c.tc.loc Cert.Reference3Ideal.main_arg1))
              (m (c.tc.loc Cert.Reference3Ideal.main_arg2))
      ∧ r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1)
      ∧ r.2.mem (c.tc.loc Cert.Reference3Ideal.main_arg2) = m (c.tc.loc Cert.Reference3Ideal.main_arg2) := by
  refine (θ_run (Cert.Reference3Ideal.defs (F := Ideal)) _ _).mono (fun r h c => ⟨(h c).1.trans ?_, (h c).2⟩)
    (Cert.Reference3Ideal.Value.run (F := Ideal) m ρ)
  funext i
  obtain ⟨r, l, rfl⟩ : ∃ r l, i = ix2 r l := ⟨i 0, i 1, eq_ix2 i⟩
  pointwise [gate, gateRow, normed, col]

open Cert.Kernel3Ideal Cert.Kernel3Ideal.Gen

/-- What the body leaves in the result's block, at one element. -/
theorem out_apply (x : Vec Ideal S512x1024 .f32) (g : Vec Ideal S1x1024 .f32) (p : Vec Ideal S256x256 .bf16)
    (w : Vec Ideal S1024x3072 .bf16) (a : Vec Ideal S3x3072 .f32) (y : S512x3072.Idx) :
    out0_5 (F := Ideal) x g p w a y = gateRow (fun k => x (ix2 (y 0) k)) (fun k => g (ix2 0 k)) (fun k => w (ix2 k (y 1))) := by
  unfold out0_5
  canon_tiles z h
  all_goals
    unfold_payloads
    pointwise [gateRow, normed]
    simp only [zero_sub, show (y 0 : Fin 512) = z 0 from Fin.ext h0]
    simp only [← h1]
    rfl

/-- Which block each window is on at a grid point. -/
theorem idx (t : Fin cfg0.N) : win0_0.index t = ![(grid0.coords t 0).val, 0] ∧ win0_1.index t = ![0, 0]
    ∧ win0_3.index t = ![0, 0] ∧ win0_5.index t = ![(grid0.coords t 0).val, 0] :=
  (by decide +kernel : ∀ t : Fin grid0.N, win0_0.index t = ![(grid0.coords t 0).val, 0] ∧ win0_1.index t = ![0, 0]
    ∧ win0_3.index t = ![0, 0] ∧ win0_5.index t = ![(grid0.coords t 0).val, 0]) t

/-- The array the kernel leaves. -/
theorem final (m : (ℓ : Loc nD τ sig) → Buf (Elt Ideal) ℓ) (c : Dev nD) :
    (dats (F := Ideal) m 0 c).arrAt 5 cfg0.N
      = gate (m (c.tc.loc main_arg0)) (m (c.tc.loc main_arg1)) (m (c.tc.loc main_arg2)) := by
  refine (dats (F := Ideal) m 0 c).arrAt_eq_of_covers 5 _ (by decide +kernel) fun t hf y => ?_
  blk_simp
  rw [after0_5, out_apply]
  idx_vars y
  obtain ⟨e0, e1, e3, e5⟩ := idx t
  unfold gate
  congr 1
  · funext k
    blk_ext [iblk, V, e0, e5]
  · funext k
    blk_ext! [iblk, V, e1]
  · funext k
    blk_ext! [iblk, V, e3, e5, col]

end Cert.Proof.Gate

end
-- ==== Proof.HeadsSlots.lean ====
/-
  The scratch that one group's queries, keys and values are put in, and the classes that are taken out of it.
-/
module

public import proofs.«01_k».proof.Proof.Gen.Kernel5Ideal.Value
public import Idealize.ShloMosaic.Lib.Pointwise
public import Idealize.ShloMosaic.Lib.Claim
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Proof.Heads

open Idealize.ShloMosaic Idealize.ShloMosaic.TcCoe Idealize.SL.Sem
open Cert.Kernel5Ideal Cert.Kernel5Ideal.Gen

/-- What a list of stores leaves, where they are all blocks of one array. -/
theorem canon_of {S : Shape} {e : EltTy} (G : S.Idx → Elt Ideal e) (L : List (View.Piece (Elt Ideal) S e)) (y : S.Idx) (h : View.PiecesOf G L)
    (hc : ∃ p ∈ L, y ∈ p.1.set) : View.canon L y = G y := by
  rw [← List.append_nil L]
  exact View.canon_append_of_piecesOf G [] L h y hc

/-- Six slots, one after another. -/
def stack (p0 p1 p2 p3 p4 p5 : Vec Ideal S1x512x128 .f32) (i : S6x512x128.Idx) : Elt Ideal .f32 :=
  (![p0, p1, p2, p3, p4, p5] (i 0)) (ix3 0 (i 1) (i 2))

/-- Where lane `l` of an even (0) or odd (1) slot stands among 256 lanes. -/
def half (b : Fin 2) (l : Fin 128) : Fin 256 := ⟨b * 128 + l, by omega⟩

/-- Three arrays of 512 rows and 256 lanes, each cut into two slots by its lanes. -/
def slots (f : Fin 3 → Fin 512 → Fin 256 → EReal) (i : S6x512x128.Idx) : EReal :=
  f ((![0, 0, 1, 1, 2, 2] : Fin 6 → Fin 3) (i 0)) (i 1) (half ((![0, 1, 0, 1, 0, 1] : Fin 6 → Fin 2) (i 0)) (i 2))

/-- Six slots are three arrays if every slot is its half. -/
theorem stack_eq (f : Fin 3 → Fin 512 → Fin 256 → EReal) (p0 p1 p2 p3 p4 p5 : Vec Ideal S1x512x128 .f32)
    (h0 : ∀ r l, p0 (ix3 0 r l) = f 0 r (half 0 l)) (h1 : ∀ r l, p1 (ix3 0 r l) = f 0 r (half 1 l))
    (h2 : ∀ r l, p2 (ix3 0 r l) = f 1 r (half 0 l)) (h3 : ∀ r l, p3 (ix3 0 r l) = f 1 r (half 1 l))
    (h4 : ∀ r l, p4 (ix3 0 r l) = f 2 r (half 0 l)) (h5 : ∀ r l, p5 (ix3 0 r l) = f 2 r (half 1 l)) :
    stack p0 p1 p2 p3 p4 p5 = slots f := by
  funext i
  obtain ⟨a, r, l, rfl⟩ : ∃ (a : Fin 6) (r : Fin 512) (l : Fin 128), i = ix3 a r l := ⟨i 0, i 1, i 2, eq_ix3 i⟩
  match a with
  | 0 => exact h0 r l
  | 1 => exact h1 r l
  | 2 => exact h2 r l
  | 3 => exact h3 r l
  | 4 => exact h4 r l
  | 5 => exact h5 r l

/-- What is read of the scratch after its six slots have been stored is what was stored, whatever was there before. -/
theorem load6 (p0 p1 p2 p3 p4 p5 : Vec Ideal S1x512x128 .f32) (b0 b1 b2 b3 b4 b5) (L : List (View.Piece (Elt Ideal) S6x512x128 .f32)) (r : LoadRect S6x512x128) :
    (View.whole cc0_scratch0).readCov
      (⟨Rect.unit ![5, 0, 0] ![1, 512, 128] b5, p5⟩ :: ⟨Rect.unit ![4, 0, 0] ![1, 512, 128] b4, p4⟩ :: ⟨Rect.unit ![3, 0, 0] ![1, 512, 128] b3, p3⟩
        :: ⟨Rect.unit ![2, 0, 0] ![1, 512, 128] b2, p2⟩ :: ⟨Rect.unit ![1, 0, 0] ![1, 512, 128] b1, p1⟩
        :: ⟨Rect.unit ![0, 0, 0] ![1, 512, 128] b0, p0⟩ :: L) r
      = fun j => stack p0 p1 p2 p3 p4 p5 (r.idx j) := by
  rw [View.readCov_eq_canon']
  funext j
  refine View.canon_append_of_piecesOf (stack p0 p1 p2 p3 p4 p5) L [⟨Rect.unit ![5, 0, 0] ![1, 512, 128] b5, p5⟩, ⟨Rect.unit ![4, 0, 0] ![1, 512, 128] b4, p4⟩,
    ⟨Rect.unit ![3, 0, 0] ![1, 512, 128] b3, p3⟩, ⟨Rect.unit ![2, 0, 0] ![1, 512, 128] b2, p2⟩, ⟨Rect.unit ![1, 0, 0] ![1, 512, 128] b1, p1⟩,
    ⟨Rect.unit ![0, 0, 0] ![1, 512, 128] b0, p0⟩] ?_ (r.idx j) ?_
  · refine ⟨fun x => ?_, fun x => ?_, fun x => ?_, fun x => ?_, fun x => ?_, fun x => ?_, trivial⟩
    all_goals
      idx_vars x
      obtain rfl : x0 = 0 := Subsingleton.elim _ _
    · exact congrArg p5 (by blk_ext [])
    · exact congrArg p4 (by blk_ext [])
    · exact congrArg p3 (by blk_ext [])
    · exact congrArg p2 (by blk_ext [])
    · exact congrArg p1 (by blk_ext [])
    · exact congrArg p0 (by blk_ext [])
  · generalize r.idx j = y
    have y1 : (y 1 : ℕ) < 512 := (y 1).isLt
    have y2 : (y 2 : ℕ) < 128 := (y 2).isLt
    have key : ∀ (k : ℕ) (b) (w : Vec Ideal S1x512x128 .f32), (y 0 : ℕ) = k →
        y ∈ (⟨Rect.unit ![k, 0, 0] ![1, 512, 128] b, w⟩ : View.Piece (Elt Ideal) S6x512x128 .f32).1.set := fun k b w h =>
      (LoadRect.mem_set _).mpr fun a => match a with
        | 0 => ⟨0, by show 0 < 1; omega, by show (y 0 : ℕ) = k + 1 * 0; omega⟩
        | 1 => ⟨y 1, y1, by show (y 1 : ℕ) = 0 + 1 * (y 1 : ℕ); omega⟩
        | 2 => ⟨y 2, y2, by show (y 2 : ℕ) = 0 + 1 * (y 2 : ℕ); omega⟩
    have y0 : (y 0 : ℕ) < 6 := (y 0).isLt
    have : (y 0 : ℕ) = 5 ∨ (y 0 : ℕ) = 4 ∨ (y 0 : ℕ) = 3 ∨ (y 0 : ℕ) = 2 ∨ (y 0 : ℕ) = 1 ∨ (y 0 : ℕ) = 0 := by omega
    rcases this with h | h | h | h | h | h
    · exact ⟨_, List.mem_cons_self, key 5 b5 p5 h⟩
    · exact ⟨_, List.mem_cons_of_mem _ List.mem_cons_self, key 4 b4 p4 h⟩
    · exact ⟨_, List.mem_cons_of_mem _ (List.mem_cons_of_mem _ List.mem_cons_self), key 3 b3 p3 h⟩
    · exact ⟨_, List.mem_cons_of_mem _ (List.mem_cons_of_mem _ (List.mem_cons_of_mem _ List.mem_cons_self)), key 2 b2 p2 h⟩
    · exact ⟨_, List.mem_cons_of_mem _ (List.mem_cons_of_mem _ (List.mem_cons_of_mem _ (List.mem_cons_of_mem _ List.mem_cons_self))), key 1 b1 p1 h⟩
    · exact ⟨_, List.mem_cons_of_mem _ (List.mem_cons_of_mem _ (List.mem_cons_of_mem _ (List.mem_cons_of_mem _ (List.mem_cons_of_mem _ List.mem_cons_self)))), key 0 b0 p0 h⟩

/-- Where place `q` of class `j` of one, at lane `l` of kind `p`, stands in the slots. -/
def at1 (j : Fin 1) (p : Fin 3) (q : Fin 512) (l : Fin 256) : S6x512x128.Idx :=
  ix3 (⟨2 * p + l / 128, by omega⟩ : Fin 6) (⟨q + j, by omega⟩ : Fin 512) (⟨l % 128, by omega⟩ : Fin 128)

/-- Where place `q` of class `j` of four, at lane `l` of kind `p`, stands in the slots. -/
def at4 (j : Fin 4) (p : Fin 3) (q : Fin 128) (l : Fin 256) : S6x512x128.Idx :=
  ix3 (⟨2 * p + l / 128, by omega⟩ : Fin 6) (⟨j + 4 * q, by omega⟩ : Fin 512) (⟨l % 128, by omega⟩ : Fin 128)

/-- Where place `q` of class `j` of sixteen, at lane `l` of kind `p`, stands in the slots. -/
def at16 (j : Fin 16) (p : Fin 3) (q : Fin 32) (l : Fin 256) : S6x512x128.Idx :=
  ix3 (⟨2 * p + l / 128, by omega⟩ : Fin 6) (⟨j + 16 * q, by omega⟩ : Fin 512) (⟨l % 128, by omega⟩ : Fin 128)

/-- The slots taken out in one class. -/
def out1 (Z : S6x512x128.Idx → EReal) (i : S1x1x3x512x256.Idx) : EReal := Z (at1 (i 1) (i 2) (i 3) (i 4))

/-- The slots taken out in four classes. -/
def out4 (Z : S6x512x128.Idx → EReal) (i : S1x4x3x128x256.Idx) : EReal := Z (at4 (i 1) (i 2) (i 3) (i 4))

/-- The slots taken out in sixteen classes. -/
def out16 (Z : S6x512x128.Idx → EReal) (i : S1x16x3x32x256.Idx) : EReal := Z (at16 (i 1) (i 2) (i 3) (i 4))

/-- One store of the result in one class: the class's rows of two slots, joined along the lanes. -/
theorem piece1 (Z : S6x512x128.Idx → Elt Ideal .f32) (A B : Vec Ideal S1x512x128 .f32) (p k k' : ℕ) (hk : k = 2 * p) (hk' : k' = 2 * p + 1) (hp : p < 3)
    (inb inb' inb'') (hs) (hs') (hc) (hb) (hs'')
    (hA : A = fun x => Z ((Rect.unit (s := S6x512x128) ![k, 0, 0] ![1, 512, 128] inb).toLoadRect.idx x))
    (hB : B = fun x => Z ((Rect.unit (s := S6x512x128) ![k', 0, 0] ![1, 512, 128] inb').toLoadRect.idx x)) (x) :
    shapeCast S1x1x1x512x256 (truncf (F := Ideal) .bf16 ((concatenate S512x256 1
        [⟨S512x128, shapeCast (s := S1x512x128) S512x128 A hs⟩, ⟨S512x128, shapeCast (s := S1x512x128) S512x128 B hs'⟩] hc : FVec Ideal _ .f32)) hb) hs'' x
      = out1 Z ((Rect.unit (s := S1x1x3x512x256) ![0, 0, p, 0, 0] ![1, 1, 1, 512, 256] inb'').emb x) := by
  replace hA : A = View.ld Z (Rect.unit (s := S6x512x128) ![k, 0, 0] ![1, 512, 128] inb) := hA
  replace hB : B = View.ld Z (Rect.unit (s := S6x512x128) ![k', 0, 0] ![1, 512, 128] inb') := hB
  subst hA hB
  idx_vars x
  pointwise [out1, at1]
  split_ifs <;> (congr 1; blk_ext [hk, hk'])

/-- One store of the result in four classes: the class's rows of two slots, joined along the lanes. -/
theorem piece4 (Z : S6x512x128.Idx → Elt Ideal .f32) (A B : Vec Ideal S1x128x128 .f32) (p k k' j : ℕ) (hk : k = 2 * p) (hk' : k' = 2 * p + 1) (hp : p < 3) (hj : j < 4)
    (inb inb' inb'') (hs) (hs') (hc) (hb) (hs'')
    (hA : A = fun x => Z (({ off := ![k, j, 0], size := ![1, 128, 128], stride := ![1, 4, 1], inb := inb } : LoadRect S6x512x128).idx x))
    (hB : B = fun x => Z (({ off := ![k', j, 0], size := ![1, 128, 128], stride := ![1, 4, 1], inb := inb' } : LoadRect S6x512x128).idx x)) (x) :
    shapeCast S1x1x1x128x256 (truncf (F := Ideal) .bf16 ((concatenate S128x256 1
        [⟨S128x128, shapeCast (s := S1x128x128) S128x128 A hs⟩, ⟨S128x128, shapeCast (s := S1x128x128) S128x128 B hs'⟩] hc : FVec Ideal _ .f32)) hb) hs'' x
      = out4 Z ((Rect.unit (s := S1x4x3x128x256) ![0, j, p, 0, 0] ![1, 1, 1, 128, 256] inb'').emb x) := by
  replace hA : A = View.ld Z ({ off := ![k, j, 0], size := ![1, 128, 128], stride := ![1, 4, 1], inb := inb, stride_pos := by decide } : Rect S6x512x128) := hA
  replace hB : B = View.ld Z ({ off := ![k', j, 0], size := ![1, 128, 128], stride := ![1, 4, 1], inb := inb', stride_pos := by decide } : Rect S6x512x128) := hB
  subst hA hB
  idx_vars x
  pointwise [out4, at4]
  split_ifs <;> (congr 1; blk_ext [hk, hk'])

/-- One store of the result in sixteen classes: the class's rows of two slots, joined along the lanes. -/
theorem piece16 (Z : S6x512x128.Idx → Elt Ideal .f32) (A B : Vec Ideal S1x32x128 .f32) (p k k' j : ℕ) (hk : k = 2 * p) (hk' : k' = 2 * p + 1) (hp : p < 3) (hj : j < 16)
    (inb inb' inb'') (hs) (hs') (hc) (hb) (hs'')
    (hA : A = fun x => Z (({ off := ![k, j, 0], size := ![1, 32, 128], stride := ![1, 16, 1], inb := inb } : LoadRect S6x512x128).idx x))
    (hB : B = fun x => Z (({ off := ![k', j, 0], size := ![1, 32, 128], stride := ![1, 16, 1], inb := inb' } : LoadRect S6x512x128).idx x)) (x) :
    shapeCast S1x1x1x32x256 (truncf (F := Ideal) .bf16 ((concatenate S32x256 1
        [⟨S32x128, shapeCast (s := S1x32x128) S32x128 A hs⟩, ⟨S32x128, shapeCast (s := S1x32x128) S32x128 B hs'⟩] hc : FVec Ideal _ .f32)) hb) hs'' x
      = out16 Z ((Rect.unit (s := S1x16x3x32x256) ![0, j, p, 0, 0] ![1, 1, 1, 32, 256] inb'').emb x) := by
  replace hA : A = View.ld Z ({ off := ![k, j, 0], size := ![1, 32, 128], stride := ![1, 16, 1], inb := inb, stride_pos := by decide } : Rect S6x512x128) := hA
  replace hB : B = View.ld Z ({ off := ![k', j, 0], size := ![1, 32, 128], stride := ![1, 16, 1], inb := inb', stride_pos := by decide } : Rect S6x512x128) := hB
  subst hA hB
  idx_vars x
  pointwise [out16, at16]
  split_ifs <;> (congr 1; blk_ext [hk, hk'])

end Cert.Proof.Heads

end
-- ==== Proof.Heads.lean ====
/-
  One element of a projection with a norm for each head, as the kernel and as the reference write it.
-/
module

public import proofs.«01_k».proof.Proof.Rows
public import Idealize.ShloMosaic.Lib.IdealHost

@[expose] public section

noncomputable section

namespace Cert.Proof.Heads

open Idealize.ShloMosaic Cert.Proof.Rows

/-- Lane `d` of the head that lane `l` of 256 lies in. -/
def lane (l : Fin 256) (d : Fin 64) : Fin 256 := ⟨l / 64 * 64 + d, by omega⟩

/-- A sum over 256 lanes, each times one if it lies in the head of lane `l` and times zero if not, is the sum over that head. -/
theorem sum_head (f : Fin 256 → EReal) (l : Fin 256) :
    (∑ k : Fin 256, f k * if (k : ℕ) / 64 = (l : ℕ) / 64 then 1 else 0) = ∑ d : Fin 64, f (lane l d) := by
  simp only [mul_ite, mul_one, mul_zero]
  rw [← Finset.sum_filter]
  symm
  refine Finset.sum_bij (fun d _ => lane l d) (fun d _ => ?_) (fun d _ d' _ h => ?_) (fun k hk => ?_) (fun d _ => rfl)
  · simp only [Finset.mem_filter, Finset.mem_univ, true_and, lane]
    omega
  · have := congrArg Fin.val h
    simp only [lane] at this
    exact Fin.ext (by omega)
  · have hk := (Finset.mem_filter.mp hk).2
    exact ⟨⟨(k : ℕ) % 64, Nat.mod_lt _ (by decide)⟩, Finset.mem_univ _, Fin.ext (by simp only [lane]; omega)⟩

/-- A real number's square less itself is zero. -/
theorem sq_sub (v : EReal) (h : ∃ r : ℝ, v = r) : v * v - v * v = 0 := by
  obtain ⟨r, rfl⟩ := h
  rw [← EReal.coe_mul, ← EReal.coe_sub, sub_self, EReal.coe_zero]

/-- A head's lane `d` divided by the root mean square of the head's 64 lanes. -/
def headNorm (v : Fin 64 → EReal) (d : Fin 64) : EReal :=
  v d * Ideal.rsqrt (Ideal.div (∑ e, v e * v e) (Ideal.ofBits .f32 0x42800000#32) + Ideal.ofBits .f32 0x358637BD#32)

/-- One lane of a head: a query (0) and a key (1) are normed and scaled, a query by an eighth besides, and a value (2) is left. -/
def elem (v : Fin 3 → Fin 64 → EReal) (qk : Fin 6 → Fin 64 → EReal) (p : Fin 3) (d : Fin 64) : EReal :=
  match p with
  | 0 => headNorm (v 0) d * qk 4 d * Ideal.ofBits .f32 0x3E000000#32
  | 1 => headNorm (v 1) d * qk 5 d
  | 2 => v 2 d

/-- The column of the weight for lane `d` of head `h` among the queries (0), the keys (1) or the values (2). -/
def wcol (p : Fin 3) (h : Fin 12) (d : Fin 64) : Fin 7644 := ⟨2268 + (p * 768 + h * 64 + d), by omega⟩

/-- One lane of a row's projection. -/
def proj (x g : Fin 1024 → EReal) (w : Fin 1024 → Fin 7644 → EReal) (h : Fin 12) (p : Fin 3) (d : Fin 64) : EReal :=
  ∑ k, normed x g k * w k (wcol p h d)

/-- The head that lane `l` of group `n`'s 256 lanes lies in. -/
def hd (n : Fin 3) (l : Fin 256) : Fin 12 := ⟨4 * n + l / 64, by omega⟩

/-- The lane of its head that lane `l` is. -/
def ln (l : Fin 256) : Fin 64 := ⟨l % 64, by omega⟩

/-- Lane `l` of group `n` of a row's queries, keys or values. -/
def row (x g : Fin 1024 → EReal) (w : Fin 1024 → Fin 7644 → EReal) (qk : Fin 6 → Fin 64 → EReal) (n p : Fin 3) (l : Fin 256) : EReal :=
  elem (proj x g w (hd n l)) qk p (ln l)

/-- One lane as the kernel computes it from the row's 256 columns `y`: the sum over the head is taken by a product with `gs`, of the squares and
    of what a narrower format leaves of them, and three numbers of the lane say whether it is normed, its gain and what is added. -/
def kelem (y : Fin 256 → EReal) (gs : Fin 256 → Fin 256 → EReal) (a0 a1 a2 : EReal) (l : Fin 256) : EReal :=
  y l * (a0 * (Ideal.rsqrt ((∑ k, y k * y k * gs k l + ∑ k, (y k * y k - y k * y k) * gs k l) * Ideal.ofBits .f32 0x3C800000#32
    + Ideal.ofBits .f32 0x358637BD#32) * a1) + (1 - a0)) + a2

/-- A sixty-fourth of a number, by product or by quotient. -/
theorem sixty_fourth (s : EReal) : s * Ideal.ofBits .f32 0x3C800000#32 = Ideal.div s (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div, if_neg (by exact_mod_cast (by norm_num : (64 : ℝ) ≠ 0)), ← EReal.coe_inv]
  norm_num

/-- Of finite columns, with the sums taken over heads and nothing added. -/
theorem kelem_eq (y : Fin 256 → EReal) (hy : ∀ l, ∃ r : ℝ, y l = r) (a0 a1 : EReal) (l : Fin 256) :
    kelem y (fun k l => if (k : ℕ) / 64 = (l : ℕ) / 64 then 1 else 0) a0 a1 0 l
      = y l * (a0 * (Ideal.rsqrt (Ideal.div (∑ d, y (lane l d) * y (lane l d)) (Ideal.ofBits .f32 0x42800000#32)
        + Ideal.ofBits .f32 0x358637BD#32) * a1) + (1 - a0)) := by
  unfold kelem
  rw [sum_head (fun k => y k * y k) l]
  simp only [fun k => sq_sub (y k) (hy k), zero_mul, Finset.sum_const_zero, add_zero, sixty_fourth]

/-- A lane that is normed. -/
theorem kelem_normed (y : Fin 256 → EReal) (hy : ∀ l, ∃ r : ℝ, y l = r) (a1 : EReal) (l : Fin 256) :
    kelem y (fun k l => if (k : ℕ) / 64 = (l : ℕ) / 64 then 1 else 0) 1 a1 0 l = headNorm (fun d => y (lane l d)) (ln l) * a1 := by
  have hl : lane l (ln l) = l := Fin.ext (by simp only [lane, ln]; omega)
  have h1 : (1 : EReal) - 1 = 0 := by
    have := sq_sub 1 ⟨1, rfl⟩
    rwa [mul_one] at this
  rw [kelem_eq y hy, h1, one_mul, add_zero, headNorm, hl, mul_assoc]

/-- A lane that is left as it is. -/
theorem kelem_left (y : Fin 256 → EReal) (gs : Fin 256 → Fin 256 → EReal) (a1 : EReal) (l : Fin 256) : kelem y gs 0 a1 0 l = y l := by
  rw [kelem, zero_mul, zero_add, sub_zero, mul_one, add_zero]

end Cert.Proof.Heads

end
-- ==== Proof.HeadsBlock.lean ====
/-
  What the body leaves in the blocks of the three results.
-/
module

public import proofs.«01_k».proof.Proof.HeadsSlots
public import proofs.«01_k».proof.Proof.Heads

@[expose] public section

set_option maxRecDepth 16384

noncomputable section

namespace Cert.Proof.Heads

open Idealize.ShloMosaic Idealize.ShloMosaic.TcCoe Idealize.SL.Sem Cert.Proof.Rows
open Cert.Kernel5Ideal Cert.Kernel5Ideal.Gen

/-- Column `l` of chunk `p` among 768. -/
def at256 (p : Fin 3) (l : Fin 256) : Fin 768 := ⟨p * 256 + l, by omega⟩

/-- A row's lane in a chunk of 256 columns, from the blocks of the operands. -/
def tile (x : Vec Ideal S512x1024 .f32) (g : Vec Ideal S1x1024 .f32) (gs : Vec Ideal S256x256 .bf16) (w : Vec Ideal S1024x768 .bf16)
    (a : Vec Ideal S3x768 .f32) (p : Fin 3) (r : Fin 512) (l : Fin 256) : EReal :=
  kelem (fun l => ∑ k, normed (fun k => x (ix2 r k)) (fun k => g (ix2 0 k)) k * w (ix2 k (at256 p l))) (fun k l => gs (ix2 k l))
    (a (ix2 0 (at256 p l))) (a (ix2 1 (at256 p l))) (a (ix2 2 (at256 p l))) l

set_option maxHeartbeats 1600000 in
/-- The first result's block, from the blocks of the operands. -/
theorem block1 (m : (ℓ : Loc nD τ sig) → Buf (Elt Ideal) ℓ) (c : Dev nD) (t : Fin cfg0.N) :
    (dats (F := Ideal) m 0 c).after 9 t = out1 (slots (tile (iblk m c 0 t) (iblk m c 1 t) (iblk m c 2 t) (iblk m c 3 t) (iblk m c 4 t))) := by
  rw [after0_9]
  unfold outsAt0
  frame_open
  frame_out
  funext y
  refine (canon_of (out1 ?Z) _ y ?h ?hc).trans (congrArg (fun Z => out1 Z y) ?hz)
  case h =>
    repeat refine ⟨piece1 _ _ _ _ _ _ (by rfl) (by rfl) (by decide) (by decide) (by decide) (by decide) _ _ _ _ _ (by refine (load6 _ _ _ _ _ _ _ _ _ _ _ _ _ _).trans ?_; rfl) (by refine (load6 _ _ _ _ _ _ _ _ _ _ _ _ _ _).trans ?_; rfl), ?_⟩
    trivial
  case hc => exact View.cover_of_tiledL _ ![1, 1, 1, 512, 256] (by sl_kernel_rfl) y
  case hz =>
    refine stack_eq _ _ _ _ _ _ _ ?_ ?_ ?_ ?_ ?_ ?_
    all_goals
      intro r l
      unfold_payloads
      pointwise [tile, kelem, normed, half, at256]

set_option maxHeartbeats 1600000 in
/-- The second result's block, from the blocks of the operands. -/
theorem block4 (m : (ℓ : Loc nD τ sig) → Buf (Elt Ideal) ℓ) (c : Dev nD) (t : Fin cfg0.N) :
    (dats (F := Ideal) m 0 c).after 10 t = out4 (slots (tile (iblk m c 0 t) (iblk m c 1 t) (iblk m c 2 t) (iblk m c 5 t) (iblk m c 6 t))) := by
  rw [after0_10]
  unfold outsAt0
  frame_open
  frame_out
  funext y
  refine (canon_of (out4 ?Z) _ y ?h ?hc).trans (congrArg (fun Z => out4 Z y) ?hz)
  case h =>
    repeat refine ⟨piece4 _ _ _ _ _ _ _ (by rfl) (by rfl) (by decide) (by decide) (by decide) (by decide) (by decide) _ _ _ _ _ (by refine (load6 _ _ _ _ _ _ _ _ _ _ _ _ _ _).trans ?_; rfl) (by refine (load6 _ _ _ _ _ _ _ _ _ _ _ _ _ _).trans ?_; rfl), ?_⟩
    trivial
  case hc => exact View.cover_of_tiledL _ ![1, 1, 1, 128, 256] (by sl_kernel_rfl) y
  case hz =>
    refine stack_eq _ _ _ _ _ _ _ ?_ ?_ ?_ ?_ ?_ ?_
    all_goals
      intro r l
      unfold_payloads
      pointwise [tile, kelem, normed, half, at256]

set_option maxHeartbeats 1600000 in
/-- The third result's block, from the blocks of the operands. -/
theorem block16 (m : (ℓ : Loc nD τ sig) → Buf (Elt Ideal) ℓ) (c : Dev nD) (t : Fin cfg0.N) :
    (dats (F := Ideal) m 0 c).after 11 t = out16 (slots (tile (iblk m c 0 t) (iblk m c 1 t) (iblk m c 2 t) (iblk m c 7 t) (iblk m c 8 t))) := by
  rw [after0_11]
  unfold outsAt0
  frame_open
  frame_out
  funext y
  refine (canon_of (out16 ?Z) _ y ?h ?hc).trans (congrArg (fun Z => out16 Z y) ?hz)
  case h =>
    repeat refine ⟨piece16 _ _ _ _ _ _ _ (by rfl) (by rfl) (by decide) (by decide) (by decide) (by decide) (by decide) _ _ _ _ _ (by refine (load6 _ _ _ _ _ _ _ _ _ _ _ _ _ _).trans ?_; rfl) (by refine (load6 _ _ _ _ _ _ _ _ _ _ _ _ _ _).trans ?_; rfl), ?_⟩
    trivial
  case hc => exact View.cover_of_tiledL _ ![1, 1, 1, 32, 256] (by sl_kernel_rfl) y
  case hz =>
    refine stack_eq _ _ _ _ _ _ _ ?_ ?_ ?_ ?_ ?_ ?_
    all_goals
      intro r l
      unfold_payloads
      pointwise [tile, kelem, normed, half, at256]

end Cert.Proof.Heads

end
-- ==== Proof.HeadsHost.lean ====
/-
  What the host prepares for the projection with a norm for each head: the columns of the weight for one group of heads, and for each of its lanes
  whether it is normed, and its gain.
-/
module

public import proofs.«01_k».proof.Proof.HeadsBlock
public import Idealize.ShloMosaic.Lib.StableHlo.ReadAt

@[expose] public section

set_option maxRecDepth 16384

noncomputable section

namespace Cert.Proof.Heads

open Idealize.ShloMosaic Idealize.ShloMosaic.TcCoe Idealize.SL.Sem
open Cert.Kernel5Ideal Cert.Kernel5Ideal.Gen

/-- Whether a query (0), a key (1) or a value (2) is normed. -/
def normedKind (p : Fin 3) : EReal := if p = 2 then 0 else 1

/-- The gain of a query (0) with the eighth, of a key (1), and the zero that stands for a value (2). -/
def gainKind (qk : Fin 6 → Fin 64 → EReal) (p : Fin 3) (d : Fin 64) : EReal :=
  match p with
  | 0 => qk 4 d * Ideal.ofBits .f32 0x3E000000#32
  | 1 => qk 5 d
  | 2 => 0

/-- The chunks of 256 columns, in order. -/
theorem chunk0 (l : Fin 256) : (at256 0 l : ℕ) < 256 := by have := l.isLt; simp only [at256, Fin.val_zero]; omega
theorem chunk1 (l : Fin 256) : ¬ (at256 1 l : ℕ) < 256 := by simp only [at256, Fin.val_one]; omega
theorem chunk1' (l : Fin 256) : (at256 1 l : ℕ) - 256 < 256 := by have := l.isLt; simp only [at256, Fin.val_one]; omega
theorem chunk2 (l : Fin 256) : ¬ (at256 2 l : ℕ) < 256 := by simp only [at256, Fin.val_two]; omega
theorem chunk2' (l : Fin 256) : ¬ (at256 2 l : ℕ) - 256 < 256 := by simp only [at256, Fin.val_two]; omega

/-- Where a column of a chunk is found in the weight, if the chunk's first column is. -/
theorem wcol_of (n p : Fin 3) (l : Fin 256) (q : Fin 7644) (h : (q : ℕ) = 2268 + p * 768 + n * 256 + l) : q = wcol p (hd n l) (ln l) :=
  Fin.ext (by rw [h]; simp only [wcol, hd, ln]; omega)

/-- Where a column of a chunk is found in a head. -/
theorem ln_of (p : Fin 3) (l : Fin 256) (q : Fin 64) (h : (q : ℕ) = ((at256 p l : ℕ) - p * 256) % 64) : q = ln l :=
  Fin.ext (by rw [h]; simp only [at256, ln]; omega)

/-- The host's quotient of a lane number by 64. -/
theorem div64 (k : Fin 256) : IntOp.divsi ArithUnit.host (BitVec.ofNat 32 k) 64#32 = BitVec.ofNat 32 ((k : ℕ) / 64) := by
  revert k
  decide +kernel

/-- Two small numbers compared as words. -/
theorem select_eq (a b : ℕ) (ha : a < 4) (hb : b < 4) :
    Scalar.select (IntOp.cmpi CmpIPredicate.eq (BitVec.ofNat 32 a) (BitVec.ofNat 32 b)) (1 : EReal) 0 = if a = b then 1 else 0 := by
  interval_cases a <;> interval_cases b <;> rfl

set_option maxHeartbeats 4000000 in
/-- The mask that sums over a head's lanes. -/
theorem gs_host (m : (ℓ : Loc nD τ sig) → Buf (Elt Ideal) ℓ) (c : Dev nD) (k l : Fin 256) :
    (V (F := Ideal) m c main_v88 (ix2 k l) : EReal) = (if (k : ℕ) / 64 = (l : ℕ) / 64 then 1 else 0 : EReal) := by
  unfold V
  after_reads_at
  rw [div64, div64]
  exact select_eq _ _ (by omega) (by omega)

set_option maxHeartbeats 4000000 in
/-- The gain of the row's norm. -/
theorem gain_host (m : (ℓ : Loc nD τ sig) → Buf (Elt Ideal) ℓ) (c : Dev nD) (k : Fin 1024) :
    (V (F := Ideal) m c main_v89 (ix2 0 k) : EReal) = m (c.tc.loc main_arg1) (ix1 k) := by
  unfold V
  after_reads_at

set_option maxHeartbeats 4000000 in
/-- The first group's columns of the weight. -/
theorem w0_host (m : (ℓ : Loc nD τ sig) → Buf (Elt Ideal) ℓ) (c : Dev nD) (k : Fin 1024) (p : Fin 3) (l : Fin 256) :
    (V (F := Ideal) m c main_v4 (ix2 k (at256 p l)) : EReal) = m (c.tc.loc main_arg2) (ix2 k (wcol p (hd 0 l) (ln l))) := by
  unfold V
  after_reads_at
  after_reads_at
  match p with
  | 0 =>
    rw [dif_pos (chunk0 l)]
    exact congrArg (fun q => m (c.tc.loc main_arg2) (ix2 k q)) (wcol_of 0 0 l _ (by simp only [at256]; omega))
  | 1 =>
    rw [dif_neg (chunk1 l), dif_pos (chunk1' l)]
    exact congrArg (fun q => m (c.tc.loc main_arg2) (ix2 k q)) (wcol_of 0 1 l _ (by simp only [at256]; omega))
  | 2 =>
    rw [dif_neg (chunk2 l), dif_neg (chunk2' l)]
    exact congrArg (fun q => m (c.tc.loc main_arg2) (ix2 k q)) (wcol_of 0 2 l _ (by simp only [at256]; omega))

set_option maxHeartbeats 4000000 in
/-- Which of the first group's lanes are normed. -/
theorem normed0_host (m : (ℓ : Loc nD τ sig) → Buf (Elt Ideal) ℓ) (c : Dev nD) (p : Fin 3) (l : Fin 256) :
    (V (F := Ideal) m c main_v26 (ix2 0 (at256 p l)) : EReal) = normedKind p := by
  unfold V
  after_reads_at
  after_reads_at
  after_reads_at
  match p with
  | 0 => exact dif_pos (by have := l.isLt; simp only [at256]; omega)
  | 1 => exact dif_pos (by have := l.isLt; simp only [at256]; omega)
  | 2 => exact dif_neg (by simp only [at256]; omega)

set_option maxHeartbeats 4000000 in
/-- The gains of the first group's lanes. -/
theorem gain0_host (m : (ℓ : Loc nD τ sig) → Buf (Elt Ideal) ℓ) (c : Dev nD) (p : Fin 3) (l : Fin 256) :
    (V (F := Ideal) m c main_v26 (ix2 1 (at256 p l)) : EReal) = gainKind (fun j d => m (c.tc.loc main_arg3) (ix2 j d)) p (ln l) := by
  unfold V
  after_reads_at
  after_reads_at
  after_reads_at
  match p with
  | 0 =>
    rw [dif_pos (chunk0 l)]
    exact congrArg (gainKind (fun j d => m (c.tc.loc main_arg3) (ix2 j d)) 0) (ln_of 0 l _ (by rfl))
  | 1 =>
    rw [dif_neg (chunk1 l), dif_pos (chunk1' l)]
    exact congrArg (gainKind (fun j d => m (c.tc.loc main_arg3) (ix2 j d)) 1) (ln_of 1 l _ (by rfl))
  | 2 =>
    rw [dif_neg (chunk2 l), dif_neg (chunk2' l)]
    rfl

set_option maxHeartbeats 4000000 in
/-- Nothing is added to the first group's lanes. -/
theorem zero0_host (m : (ℓ : Loc nD τ sig) → Buf (Elt Ideal) ℓ) (c : Dev nD) (q : Fin 768) : (V (F := Ideal) m c main_v26 (ix2 2 q) : EReal) = (0 : EReal) := by
  unfold V
  after_reads_at
  after_reads_at

set_option maxHeartbeats 4000000 in
/-- The second group's columns of the weight. -/
theorem w1_host (m : (ℓ : Loc nD τ sig) → Buf (Elt Ideal) ℓ) (c : Dev nD) (k : Fin 1024) (p : Fin 3) (l : Fin 256) :
    (V (F := Ideal) m c main_v30 (ix2 k (at256 p l)) : EReal) = m (c.tc.loc main_arg2) (ix2 k (wcol p (hd 1 l) (ln l))) := by
  unfold V
  after_reads_at
  after_reads_at
  match p with
  | 0 =>
    rw [dif_pos (chunk0 l)]
    exact congrArg (fun q => m (c.tc.loc main_arg2) (ix2 k q)) (wcol_of 1 0 l _ (by simp only [at256]; omega))
  | 1 =>
    rw [dif_neg (chunk1 l), dif_pos (chunk1' l)]
    exact congrArg (fun q => m (c.tc.loc main_arg2) (ix2 k q)) (wcol_of 1 1 l _ (by simp only [at256]; omega))
  | 2 =>
    rw [dif_neg (chunk2 l), dif_neg (chunk2' l)]
    exact congrArg (fun q => m (c.tc.loc main_arg2) (ix2 k q)) (wcol_of 1 2 l _ (by simp only [at256]; omega))

set_option maxHeartbeats 4000000 in
/-- The third group's columns of the weight. -/
theorem w2_host (m : (ℓ : Loc nD τ sig) → Buf (Elt Ideal) ℓ) (c : Dev nD) (k : Fin 1024) (p : Fin 3) (l : Fin 256) :
    (V (F := Ideal) m c main_v56 (ix2 k (at256 p l)) : EReal) = m (c.tc.loc main_arg2) (ix2 k (wcol p (hd 2 l) (ln l))) := by
  unfold V
  after_reads_at
  after_reads_at
  match p with
  | 0 =>
    rw [dif_pos (chunk0 l)]
    exact congrArg (fun q => m (c.tc.loc main_arg2) (ix2 k q)) (wcol_of 2 0 l _ (by simp only [at256]; omega))
  | 1 =>
    rw [dif_neg (chunk1 l), dif_pos (chunk1' l)]
    exact congrArg (fun q => m (c.tc.loc main_arg2) (ix2 k q)) (wcol_of 2 1 l _ (by simp only [at256]; omega))
  | 2 =>
    rw [dif_neg (chunk2 l), dif_neg (chunk2' l)]
    exact congrArg (fun q => m (c.tc.loc main_arg2) (ix2 k q)) (wcol_of 2 2 l _ (by simp only [at256]; omega))

set_option maxHeartbeats 4000000 in
/-- Which of the second group's lanes are normed. -/
theorem normed1_host (m : (ℓ : Loc nD τ sig) → Buf (Elt Ideal) ℓ) (c : Dev nD) (p : Fin 3) (l : Fin 256) :
    (V (F := Ideal) m c main_v52 (ix2 0 (at256 p l)) : EReal) = normedKind p := by
  unfold V
  after_reads_at
  after_reads_at
  after_reads_at
  match p with
  | 0 => exact dif_pos (by have := l.isLt; simp only [at256]; omega)
  | 1 => exact dif_pos (by have := l.isLt; simp only [at256]; omega)
  | 2 => exact dif_neg (by simp only [at256]; omega)

set_option maxHeartbeats 4000000 in
/-- The gains of the second group's lanes. -/
theorem gain1_host (m : (ℓ : Loc nD τ sig) → Buf (Elt Ideal) ℓ) (c : Dev nD) (p : Fin 3) (l : Fin 256) :
    (V (F := Ideal) m c main_v52 (ix2 1 (at256 p l)) : EReal) = gainKind (fun j d => m (c.tc.loc main_arg3) (ix2 j d)) p (ln l) := by
  unfold V
  after_reads_at
  after_reads_at
  after_reads_at
  match p with
  | 0 =>
    rw [dif_pos (chunk0 l)]
    exact congrArg (gainKind (fun j d => m (c.tc.loc main_arg3) (ix2 j d)) 0) (ln_of 0 l _ (by rfl))
  | 1 =>
    rw [dif_neg (chunk1 l), dif_pos (chunk1' l)]
    exact congrArg (gainKind (fun j d => m (c.tc.loc main_arg3) (ix2 j d)) 1) (ln_of 1 l _ (by rfl))
  | 2 =>
    rw [dif_neg (chunk2 l), dif_neg (chunk2' l)]
    rfl

set_option maxHeartbeats 4000000 in
/-- Nothing is added to the second group's lanes. -/
theorem zero1_host (m : (ℓ : Loc nD τ sig) → Buf (Elt Ideal) ℓ) (c : Dev nD) (q : Fin 768) : (V (F := Ideal) m c main_v52 (ix2 2 q) : EReal) = (0 : EReal) := by
  unfold V
  after_reads_at
  after_reads_at

set_option maxHeartbeats 4000000 in
/-- Which of the third group's lanes are normed. -/
theorem normed2_host (m : (ℓ : Loc nD τ sig) → Buf (Elt Ideal) ℓ) (c : Dev nD) (p : Fin 3) (l : Fin 256) :
    (V (F := Ideal) m c main_v78 (ix2 0 (at256 p l)) : EReal) = normedKind p := by
  unfold V
  after_reads_at
  after_reads_at
  after_reads_at
  match p with
  | 0 => exact dif_pos (by have := l.isLt; simp only [at256]; omega)
  | 1 => exact dif_pos (by have := l.isLt; simp only [at256]; omega)
  | 2 => exact dif_neg (by simp only [at256]; omega)

set_option maxHeartbeats 4000000 in
/-- The gains of the third group's lanes. -/
theorem gain2_host (m : (ℓ : Loc nD τ sig) → Buf (Elt Ideal) ℓ) (c : Dev nD) (p : Fin 3) (l : Fin 256) :
    (V (F := Ideal) m c main_v78 (ix2 1 (at256 p l)) : EReal) = gainKind (fun j d => m (c.tc.loc main_arg3) (ix2 j d)) p (ln l) := by
  unfold V
  after_reads_at
  after_reads_at
  after_reads_at
  match p with
  | 0 =>
    rw [dif_pos (chunk0 l)]
    exact congrArg (gainKind (fun j d => m (c.tc.loc main_arg3) (ix2 j d)) 0) (ln_of 0 l _ (by rfl))
  | 1 =>
    rw [dif_neg (chunk1 l), dif_pos (chunk1' l)]
    exact congrArg (gainKind (fun j d => m (c.tc.loc main_arg3) (ix2 j d)) 1) (ln_of 1 l _ (by rfl))
  | 2 =>
    rw [dif_neg (chunk2 l), dif_neg (chunk2' l)]
    rfl

set_option maxHeartbeats 4000000 in
/-- Nothing is added to the third group's lanes. -/
theorem zero2_host (m : (ℓ : Loc nD τ sig) → Buf (Elt Ideal) ℓ) (c : Dev nD) (q : Fin 768) : (V (F := Ideal) m c main_v78 (ix2 2 q) : EReal) = (0 : EReal) := by
  unfold V
  after_reads_at
  after_reads_at

end Cert.Proof.Heads

end
-- ==== Proof.HeadsRef.lean ====
/-
  The third mixer's queries, keys and values by the reference, over the extended reals.
-/
module

public import proofs.«01_k».proof.Proof.Gen.Reference5Ideal.Run
public import proofs.«01_k».proof.Proof.Heads
public import Idealize.ShloMosaic.Lib.Pointwise
public import Idealize.ShloMosaic.Lib.Claim
public import Idealize.ShloMosaic.Lib.IdealHost

@[expose] public section

set_option maxRecDepth 16384

noncomputable section

namespace Cert.Proof.Heads

open Idealize.ShloMosaic Idealize.ShloMosaic.TcCoe Idealize.SL.Sem Cert.Proof.Rows
open Cert.Reference5Ideal Cert.Reference5Ideal.Gen

/-- The columns of the projection that the third mixer takes, by heads. -/
def cols (x : FVec Ideal S32768x1024 .f32) (g : FVec Ideal S1024 .f32) (w : FVec Ideal S1024x7644 .f32) : FVec Ideal S32768x3x12x64 .f32 :=
  shapeCast _ (extractStridedSlice S32768x2304 ![0, 2268] (Host.dotGeneral dot_S32768x1024_S1024x7644_S32768x7644_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w) slices_S32768x7644_S32768x2304_0_2268) shapeCasts_S32768x2304_S32768x3x12x64

/-- The columns, at one lane. -/
theorem cols_apply (x : FVec Ideal S32768x1024 .f32) (g : FVec Ideal S1024 .f32) (w : FVec Ideal S1024x7644 .f32) (r : Fin 32768) (p : Fin 3)
    (h : Fin 12) (d : Fin 64) :
    cols x g w (ix4 r p h d) = proj (fun k => x (ix2 r k)) (fun k => g (ix1 k)) (fun k l => w (ix2 k l)) h p d := by
  pointwise [cols, proj, normed, wcol]

/-- Every head divided by its root mean square. -/
def normHeads (B : FVec Ideal S32768x12x64 .f32) : FVec Ideal S32768x12x64 .f32 :=
  mulf B (broadcastInDim S32768x12x64 ![0, 1, 2] bcast_S32768x12x1_S32768x12x64_0_1_2 (Host.rsqrt (addf (Host.divf (broadcastInDim S32768x12x1 ![0, 1] bcast_S32768x12_S32768x12x1_0_1 (Host.reduceAdd (mulf B B) (constant S_ .f32 0x00000000#32) reducesTo_S32768x12x64_S32768x12_d2 h_S_)) (broadcastInDim S32768x12x1 ![] bcast_S_S32768x12x1 (constant S_ .f32 0x42800000#32))) (broadcastInDim S32768x12x1 ![] bcast_S_S32768x12x1 (constant S_ .f32 0x358637BD#32)))))

/-- The norm, at one lane. -/
theorem normHeads_apply (B : FVec Ideal S32768x12x64 .f32) (r : Fin 32768) (h : Fin 12) (d : Fin 64) :
    normHeads B (ix3 r h d) = headNorm (fun e => B (ix3 r h e)) d := by
  pointwise [normHeads, headNorm]

/-- Queries, keys and values of all twelve heads. -/
def heads (C : FVec Ideal S32768x3x12x64 .f32) (qk : FVec Ideal S6x64 .f32) : FVec Ideal S32768x3x12x64 .f32 :=
  (concatenate S32768x3x12x64 1 [⟨S32768x1x12x64, ((broadcastInDim S32768x1x12x64 ![0, 2, 3] bcast_S32768x12x64_S32768x1x12x64_0_2_3 (mulf (mulf (normHeads (shapeCast _ (extractStridedSlice S32768x1x12x64 ![0, 0, 0, 0] C slices_S32768x3x12x64_S32768x1x12x64_0_0_0_0) shapeCasts_S32768x1x12x64_S32768x12x64)) (broadcastInDim S32768x12x64 ![0, 1, 2] bcast_S1x1x64_S32768x12x64_0_1_2 (broadcastInDim S1x1x64 ![2] bcast_S64_S1x1x64_2 (shapeCast _ (extractStridedSlice S1x64 ![4, 0] qk slices_S6x64_S1x64_4_0) shapeCasts_S1x64_S64)))) (broadcastInDim S32768x12x64 ![] bcast_S_S32768x12x64 (constant S_ .f32 0x3E000000#32)))) : (⟨S32768x1x12x64, .f32⟩ : BufTy).Contents (Elt Ideal))⟩, ⟨S32768x1x12x64, ((broadcastInDim S32768x1x12x64 ![0, 2, 3] bcast_S32768x12x64_S32768x1x12x64_0_2_3 (mulf (normHeads (shapeCast _ (extractStridedSlice S32768x1x12x64 ![0, 1, 0, 0] C slices_S32768x3x12x64_S32768x1x12x64_0_1_0_0) shapeCasts_S32768x1x12x64_S32768x12x64)) (broadcastInDim S32768x12x64 ![0, 1, 2] bcast_S1x1x64_S32768x12x64_0_1_2 (broadcastInDim S1x1x64 ![2] bcast_S64_S1x1x64_2 (shapeCast _ (extractStridedSlice S1x64 ![5, 0] qk slices_S6x64_S1x64_5_0) shapeCasts_S1x64_S64))))) : (⟨S32768x1x12x64, .f32⟩ : BufTy).Contents (Elt Ideal))⟩, ⟨S32768x1x12x64, ((broadcastInDim S32768x1x12x64 ![0, 2, 3] bcast_S32768x12x64_S32768x1x12x64_0_2_3 (shapeCast _ (extractStridedSlice S32768x1x12x64 ![0, 2, 0, 0] C slices_S32768x3x12x64_S32768x1x12x64_0_2_0_0) shapeCasts_S32768x1x12x64_S32768x12x64)) : (⟨S32768x1x12x64, .f32⟩ : BufTy).Contents (Elt Ideal))⟩] concatenates_S32768x1x12x64_S32768x1x12x64_S32768x1x12x64_S32768x3x12x64_d1 : (⟨S32768x3x12x64, .f32⟩ : BufTy).Contents (Elt Ideal))

/-- Queries, keys and values, at one lane. -/
theorem heads_apply (C : FVec Ideal S32768x3x12x64 .f32) (qk : FVec Ideal S6x64 .f32) (r : Fin 32768) (p : Fin 3) (h : Fin 12) (d : Fin 64) :
    heads C qk (ix4 r p h d) = elem (fun p d => C (ix4 r p h d)) (fun a d => qk (ix2 a d)) p d := by
  pointwise [heads, elem, normHeads_apply]
  fin_cases p <;> rfl

/-- Group `n`'s queries, keys and values of row `r`, from the four arguments. -/
def res (x : S32768x1024.Idx → EReal) (g : S1024.Idx → EReal) (w : S1024x7644.Idx → EReal) (qk : S6x64.Idx → EReal) (n : Fin 3) (r : Fin 32768)
    (p : Fin 3) (l : Fin 256) : EReal :=
  row (fun k => x (ix2 r k)) (fun k => g (ix1 k)) (fun k l => w (ix2 k l)) (fun a d => qk (ix2 a d)) n p l

/-- The row that stands at place `q` of the only class of tile `t`. -/
def tok1 (t : Fin 64) (j : Fin 1) (q : Fin 512) : Fin 32768 := ⟨t * 512 + q + j, by omega⟩

/-- The row that stands at place `q` of class `j` of four, in tile `t`. -/
def tok4 (t : Fin 64) (j : Fin 4) (q : Fin 128) : Fin 32768 := ⟨t * 512 + q * 4 + j, by omega⟩

/-- The row that stands at place `q` of class `j` of sixteen, in tile `t`. -/
def tok16 (t : Fin 64) (j : Fin 16) (q : Fin 32) : Fin 32768 := ⟨t * 512 + q * 16 + j, by omega⟩

/-- The first result: group 0, in one class. -/
def res1 (x : S32768x1024.Idx → EReal) (g : S1024.Idx → EReal) (w : S1024x7644.Idx → EReal) (qk : S6x64.Idx → EReal) (i : S64x1x3x512x256.Idx) : EReal :=
  res x g w qk 0 (tok1 (i 0) (i 1) (i 3)) (i 2) (i 4)

/-- The second result: group 1, in four classes. -/
def res4 (x : S32768x1024.Idx → EReal) (g : S1024.Idx → EReal) (w : S1024x7644.Idx → EReal) (qk : S6x64.Idx → EReal) (i : S64x4x3x128x256.Idx) : EReal :=
  res x g w qk 1 (tok4 (i 0) (i 1) (i 3)) (i 2) (i 4)

/-- The third result: group 2, in sixteen classes. -/
def res16 (x : S32768x1024.Idx → EReal) (g : S1024.Idx → EReal) (w : S1024x7644.Idx → EReal) (qk : S6x64.Idx → EReal) (i : S64x16x3x32x256.Idx) : EReal :=
  res x g w qk 2 (tok16 (i 0) (i 1) (i 3)) (i 2) (i 4)

/-- The first result of the reference, read at an element. -/
theorem ref1 (x : FVec Ideal S32768x1024 .f32) (g : FVec Ideal S1024 .f32) (w : FVec Ideal S1024x7644 .f32) (qk : FVec Ideal S6x64 .f32) (hs hc ht) :
    truncf (F := Ideal) .bf16 (transpose S64x1x3x512x256 [0, 2, 3, 1, 4] (shapeCast S64x512x1x3x256 (extractStridedSlice S32768x3x4x64 ![0, 0, 0, 0]
      (heads (cols x g w) qk) hs) hc) ht) bitsLt_bf16_f32 = res1 x g w qk := by
  funext i
  idx_vars i
  pointwise [res1, res, row, heads_apply, cols_apply, tok1, hd, ln]

/-- The second result of the reference, read at an element. -/
theorem ref4 (x : FVec Ideal S32768x1024 .f32) (g : FVec Ideal S1024 .f32) (w : FVec Ideal S1024x7644 .f32) (qk : FVec Ideal S6x64 .f32) (hs hc ht) :
    truncf (F := Ideal) .bf16 (transpose S64x4x3x128x256 [0, 2, 3, 1, 4] (shapeCast S64x128x4x3x256 (extractStridedSlice S32768x3x4x64 ![0, 0, 4, 0]
      (heads (cols x g w) qk) hs) hc) ht) bitsLt_bf16_f32 = res4 x g w qk := by
  funext i
  idx_vars i
  pointwise [res4, res, row, heads_apply, cols_apply, tok4, hd, ln]

/-- The third result of the reference, read at an element. -/
theorem ref16 (x : FVec Ideal S32768x1024 .f32) (g : FVec Ideal S1024 .f32) (w : FVec Ideal S1024x7644 .f32) (qk : FVec Ideal S6x64 .f32) (hs hc ht) :
    truncf (F := Ideal) .bf16 (transpose S64x16x3x32x256 [0, 2, 3, 1, 4] (shapeCast S64x32x16x3x256 (extractStridedSlice S32768x3x4x64 ![0, 0, 8, 0]
      (heads (cols x g w) qk) hs) hc) ht) bitsLt_bf16_f32 = res16 x g w qk := by
  funext i
  idx_vars i
  pointwise [res16, res, row, heads_apply, cols_apply, tok16, hd, ln]

/-- The reference's results, at every element. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v61) = res1 (m (c.tc.loc main_arg0)) (m (c.tc.loc main_arg1)) (m (c.tc.loc main_arg2)) (m (c.tc.loc main_arg3))
      ∧ r.2.mem (c.tc.loc main_v65) = res4 (m (c.tc.loc main_arg0)) (m (c.tc.loc main_arg1)) (m (c.tc.loc main_arg2)) (m (c.tc.loc main_arg3))
      ∧ r.2.mem (c.tc.loc main_v69) = res16 (m (c.tc.loc main_arg0)) (m (c.tc.loc main_arg1)) (m (c.tc.loc main_arg2)) (m (c.tc.loc main_arg3))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3) := by
  refine (θ_run (defs (F := Ideal)) _ _).mono (fun r h c => ⟨(h c).1.trans ?_, (h c).2.1.trans ?_, (h c).2.2.1.trans ?_, (h c).2.2.2⟩)
    (Value.run (F := Ideal) m ρ)
  · exact ref1 _ _ _ _ _ _ _
  · exact ref4 _ _ _ _ _ _ _
  · exact ref16 _ _ _ _ _ _ _

end Cert.Proof.Heads

end
-- ==== Proof.HeadsFinal.lean ====
/-
  The results of the projection with a norm for each head are the reference's.
-/
module

public import proofs.«01_k».proof.Proof.HeadsHost
public import proofs.«01_k».proof.Proof.HeadsRef

@[expose] public section

set_option maxRecDepth 16384

noncomputable section

namespace Cert.Proof.Heads

open Cert.Proof.Rows
open Idealize.ShloMosaic Idealize.ShloMosaic.TcCoe Idealize.SL.Sem
open Cert.Kernel5Ideal Cert.Kernel5Ideal.Gen

/-- Which block each window is on at a grid point. -/
theorem idx (t : Fin cfg0.N) : win0_0.index t = ![(grid0.coords t 0).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0, 0, 0, 0] ∧ win0_10.index t = ![(grid0.coords t 0).val, 0, 0, 0, 0]
    ∧ win0_11.index t = ![(grid0.coords t 0).val, 0, 0, 0, 0] :=
  (by decide +kernel : ∀ t : Fin grid0.N, win0_0.index t = ![(grid0.coords t 0).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![(grid0.coords t 0).val, 0, 0, 0, 0] ∧ win0_10.index t = ![(grid0.coords t 0).val, 0, 0, 0, 0]
    ∧ win0_11.index t = ![(grid0.coords t 0).val, 0, 0, 0, 0]) t

/-- One lane of one row, from a head's lanes `v`: normed if a query or a key, and left if a value. -/
theorem kelem_kind (v : Fin 12 → Fin 3 → Fin 64 → EReal) (qk : Fin 6 → Fin 64 → EReal) (n : Fin 3) (l : Fin 256) :
    ∀ p, (p ≠ 2 → ∀ h d, ∃ r : ℝ, v h p d = r) →
      kelem (fun l => v (hd n l) p (ln l)) (fun k l => if (k : ℕ) / 64 = (l : ℕ) / 64 then 1 else 0) (normedKind p) (gainKind qk p (ln l)) 0 l
        = elem (v (hd n l)) qk p (ln l) := by
  have e1 (d : Fin 64) : hd n (lane l d) = hd n l := Fin.ext (by simp only [hd, lane]; omega)
  have e2 (d : Fin 64) : ln (lane l d) = d := Fin.ext (by simp only [ln, lane]; omega)
  have n0 : normedKind 0 = 1 := if_neg (by decide)
  have n1 : normedKind 1 = 1 := if_neg (by decide)
  have n2 : normedKind 2 = 0 := if_pos rfl
  intro p hf
  have hy (hp : p ≠ 2) (l : Fin 256) : ∃ r : ℝ, v (hd n l) p (ln l) = r := hf hp _ _
  match p with
  | 0 =>
    rw [n0, kelem_normed _ (hy (by decide))]
    simp only [e1, e2, gainKind, elem]
    rw [← mul_assoc]
  | 1 =>
    rw [n1, kelem_normed _ (hy (by decide))]
    simp only [e1, e2, gainKind, elem]
  | 2 =>
    rw [n2, kelem_left]
    simp only [elem]

/-- A tile's element is the row's, if the columns of the queries and keys are finite. -/
theorem tile_row (x : Vec Ideal S512x1024 .f32) (g : Vec Ideal S1x1024 .f32) (gs : Vec Ideal S256x256 .bf16) (w : Vec Ideal S1024x768 .bf16)
    (a : Vec Ideal S3x768 .f32) (X G : Fin 1024 → EReal) (W : Fin 1024 → Fin 7644 → EReal) (QK : Fin 6 → Fin 64 → EReal) (n p : Fin 3) (r : Fin 512)
    (l : Fin 256) (hx : ∀ k, (x (ix2 r k) : EReal) = X k) (hg : ∀ k, (g (ix2 0 k) : EReal) = G k)
    (hgs : ∀ k l : Fin 256, (gs (ix2 k l) : EReal) = (if (k : ℕ) / 64 = (l : ℕ) / 64 then 1 else 0 : EReal))
    (hw : ∀ k l, (w (ix2 k (at256 p l)) : EReal) = W k (wcol p (hd n l) (ln l)))
    (h0 : (a (ix2 0 (at256 p l)) : EReal) = normedKind p) (h1 : (a (ix2 1 (at256 p l)) : EReal) = gainKind QK p (ln l))
    (h2 : (a (ix2 2 (at256 p l)) : EReal) = (0 : EReal)) (hfin : p ≠ 2 → ∀ h d, ∃ v : ℝ, proj X G W h p d = v) :
    tile x g gs w a p r l = row X G W QK n p l := by
  have hy : (fun l => ∑ k, normed (fun k => (x (ix2 r k) : EReal)) (fun k => g (ix2 0 k)) k * w (ix2 k (at256 p l)))
      = fun l => proj X G W (hd n l) p (ln l) := by
    funext l
    simp only [hx, hg, hw, proj]
  unfold tile
  rw [hy, h0, h1, h2, show (fun k l => (gs (ix2 k l) : EReal)) = _ from funext fun k => funext fun l => hgs k l]
  exact kelem_kind (proj X G W) QK n l p hfin

/-- The three arrays that six slots were cut from, read back. -/
theorem slots_at (f : Fin 3 → Fin 512 → Fin 256 → EReal) (p : Fin 3) (r : Fin 512) (l : Fin 256) :
    slots f (ix3 (⟨2 * p + l / 128, by omega⟩ : Fin 6) r (⟨l % 128, by omega⟩ : Fin 128)) = f p r l := by
  have h (k : Fin 6) : ((![0, 0, 1, 1, 2, 2] : Fin 6 → Fin 3) k : ℕ) = k / 2 ∧ ((![0, 1, 0, 1, 0, 1] : Fin 6 → Fin 2) k : ℕ) = k % 2 := by
    revert k
    decide
  have hk := h ⟨2 * p + l / 128, by omega⟩
  show f ((![0, 0, 1, 1, 2, 2] : Fin 6 → Fin 3) ⟨2 * p + l / 128, _⟩) r (half ((![0, 1, 0, 1, 0, 1] : Fin 6 → Fin 2) ⟨2 * p + l / 128, _⟩) ⟨l % 128, _⟩) = _
  congr 1
  · congr 1
    exact Fin.ext (hk.1.trans (by simp only []; omega))
  · refine Fin.ext ?_
    show ((![0, 1, 0, 1, 0, 1] : Fin 6 → Fin 2) ⟨2 * p + l / 128, _⟩ : ℕ) * 128 + (l : ℕ) % 128 = l
    rw [hk.2]
    simp only []
    omega

/-- A block of rows. -/
theorem x_apply (m : (ℓ : Loc nD τ sig) → Buf (Elt Ideal) ℓ) (c : Dev nD) (t : Fin cfg0.N) (r : Fin 512) (k : Fin 1024) (R : Fin 32768)
    (hR : (R : ℕ) = (grid0.coords t 0).val * 512 + r) :
    (iblk (F := Ideal) m c 0 t (ix2 r k) : EReal) = m (c.tc.loc main_arg0) (ix2 R k) := by
  obtain ⟨e0, -⟩ := idx t
  blk_ext [iblk, V, e0]

/-- The row's gain. -/
theorem g_apply (m : (ℓ : Loc nD τ sig) → Buf (Elt Ideal) ℓ) (c : Dev nD) (t : Fin cfg0.N) (k : Fin 1024) :
    (iblk (F := Ideal) m c 1 t (ix2 0 k) : EReal) = m (c.tc.loc main_arg1) (ix1 k) := by
  obtain ⟨-, e1, -⟩ := idx t
  refine Eq.trans ?_ (gain_host m c k)
  blk_ext [iblk, e1]

/-- The mask. -/
theorem gs_apply (m : (ℓ : Loc nD τ sig) → Buf (Elt Ideal) ℓ) (c : Dev nD) (t : Fin cfg0.N) (k l : Fin 256) :
    (iblk (F := Ideal) m c 2 t (ix2 k l) : EReal) = (if (k : ℕ) / 64 = (l : ℕ) / 64 then 1 else 0 : EReal) := by
  obtain ⟨-, -, e2, -⟩ := idx t
  refine Eq.trans ?_ (gs_host m c k l)
  blk_ext [iblk, e2]

/-- The first group's operands, which are whole arrays. -/
theorem w3_apply (m : (ℓ : Loc nD τ sig) → Buf (Elt Ideal) ℓ) (c : Dev nD) (t : Fin cfg0.N) (k : Fin 1024) (q : Fin 768) : (iblk (F := Ideal) m c 3 t (ix2 k q) : EReal) = V m c main_v4 (ix2 k q) := by
  obtain ⟨-, -, -, e, -⟩ := idx t
  blk_ext [iblk, e]
theorem a4_apply (m : (ℓ : Loc nD τ sig) → Buf (Elt Ideal) ℓ) (c : Dev nD) (t : Fin cfg0.N) (k : Fin 3) (q : Fin 768) : (iblk (F := Ideal) m c 4 t (ix2 k q) : EReal) = V m c main_v26 (ix2 k q) := by
  obtain ⟨-, -, -, -, e, -⟩ := idx t
  blk_ext [iblk, e]

/-- The second group's operands, which are whole arrays. -/
theorem w5_apply (m : (ℓ : Loc nD τ sig) → Buf (Elt Ideal) ℓ) (c : Dev nD) (t : Fin cfg0.N) (k : Fin 1024) (q : Fin 768) : (iblk (F := Ideal) m c 5 t (ix2 k q) : EReal) = V m c main_v30 (ix2 k q) := by
  obtain ⟨-, -, -, -, -, e, -⟩ := idx t
  blk_ext [iblk, e]
theorem a6_apply (m : (ℓ : Loc nD τ sig) → Buf (Elt Ideal) ℓ) (c : Dev nD) (t : Fin cfg0.N) (k : Fin 3) (q : Fin 768) : (iblk (F := Ideal) m c 6 t (ix2 k q) : EReal) = V m c main_v52 (ix2 k q) := by
  obtain ⟨-, -, -, -, -, -, e, -⟩ := idx t
  blk_ext [iblk, e]

/-- The third group's operands, which are whole arrays. -/
theorem w7_apply (m : (ℓ : Loc nD τ sig) → Buf (Elt Ideal) ℓ) (c : Dev nD) (t : Fin cfg0.N) (k : Fin 1024) (q : Fin 768) : (iblk (F := Ideal) m c 7 t (ix2 k q) : EReal) = V m c main_v56 (ix2 k q) := by
  obtain ⟨-, -, -, -, -, -, -, e, -⟩ := idx t
  blk_ext [iblk, e]
theorem a8_apply (m : (ℓ : Loc nD τ sig) → Buf (Elt Ideal) ℓ) (c : Dev nD) (t : Fin cfg0.N) (k : Fin 3) (q : Fin 768) : (iblk (F := Ideal) m c 8 t (ix2 k q) : EReal) = V m c main_v78 (ix2 k q) := by
  obtain ⟨-, -, -, -, -, -, -, -, e, -⟩ := idx t
  blk_ext [iblk, e]

/-- Every column of the queries and keys is a real number. -/
def Finite (m : (ℓ : Loc nD τ sig) → Buf (Elt Ideal) ℓ) (c : Dev nD) : Prop :=
  ∀ r h p, p ≠ 2 → ∀ d, ∃ v : ℝ, proj (fun k => m (c.tc.loc main_arg0) (ix2 r k)) (fun k => m (c.tc.loc main_arg1) (ix1 k))
    (fun k l => m (c.tc.loc main_arg2) (ix2 k l)) h p d = v

/-- A tile's element of the first group. -/
theorem tile0 (m : (ℓ : Loc nD τ sig) → Buf (Elt Ideal) ℓ) (c : Dev nD) (hfin : Finite m c) (t : Fin cfg0.N) (p : Fin 3) (r : Fin 512) (l : Fin 256)
    (R : Fin 32768) (hR : (R : ℕ) = (grid0.coords t 0).val * 512 + r) :
    tile (iblk (F := Ideal) m c 0 t) (iblk m c 1 t) (iblk m c 2 t) (iblk m c 3 t) (iblk m c 4 t) p r l
      = res (m (c.tc.loc main_arg0)) (m (c.tc.loc main_arg1)) (m (c.tc.loc main_arg2)) (m (c.tc.loc main_arg3)) 0 R p l :=
  tile_row _ _ _ _ _ _ _ _ _ 0 p r l (fun k => x_apply m c t r k R hR) (fun k => g_apply m c t k) (fun k l => gs_apply m c t k l)
    (fun k l => (w3_apply m c t k _).trans (w0_host m c k p l)) ((a4_apply m c t 0 _).trans (normed0_host m c p l))
    ((a4_apply m c t 1 _).trans (gain0_host m c p l)) ((a4_apply m c t 2 _).trans (zero0_host m c _)) (fun hp h d => hfin R h p hp d)

/-- A tile's element of the second group. -/
theorem tile1 (m : (ℓ : Loc nD τ sig) → Buf (Elt Ideal) ℓ) (c : Dev nD) (hfin : Finite m c) (t : Fin cfg0.N) (p : Fin 3) (r : Fin 512) (l : Fin 256)
    (R : Fin 32768) (hR : (R : ℕ) = (grid0.coords t 0).val * 512 + r) :
    tile (iblk (F := Ideal) m c 0 t) (iblk m c 1 t) (iblk m c 2 t) (iblk m c 5 t) (iblk m c 6 t) p r l
      = res (m (c.tc.loc main_arg0)) (m (c.tc.loc main_arg1)) (m (c.tc.loc main_arg2)) (m (c.tc.loc main_arg3)) 1 R p l :=
  tile_row _ _ _ _ _ _ _ _ _ 1 p r l (fun k => x_apply m c t r k R hR) (fun k => g_apply m c t k) (fun k l => gs_apply m c t k l)
    (fun k l => (w5_apply m c t k _).trans (w1_host m c k p l)) ((a6_apply m c t 0 _).trans (normed1_host m c p l))
    ((a6_apply m c t 1 _).trans (gain1_host m c p l)) ((a6_apply m c t 2 _).trans (zero1_host m c _)) (fun hp h d => hfin R h p hp d)

/-- A tile's element of the third group. -/
theorem tile2 (m : (ℓ : Loc nD τ sig) → Buf (Elt Ideal) ℓ) (c : Dev nD) (hfin : Finite m c) (t : Fin cfg0.N) (p : Fin 3) (r : Fin 512) (l : Fin 256)
    (R : Fin 32768) (hR : (R : ℕ) = (grid0.coords t 0).val * 512 + r) :
    tile (iblk (F := Ideal) m c 0 t) (iblk m c 1 t) (iblk m c 2 t) (iblk m c 7 t) (iblk m c 8 t) p r l
      = res (m (c.tc.loc main_arg0)) (m (c.tc.loc main_arg1)) (m (c.tc.loc main_arg2)) (m (c.tc.loc main_arg3)) 2 R p l :=
  tile_row _ _ _ _ _ _ _ _ _ 2 p r l (fun k => x_apply m c t r k R hR) (fun k => g_apply m c t k) (fun k l => gs_apply m c t k l)
    (fun k l => (w7_apply m c t k _).trans (w2_host m c k p l)) ((a8_apply m c t 0 _).trans (normed2_host m c p l))
    ((a8_apply m c t 1 _).trans (gain2_host m c p l)) ((a8_apply m c t 2 _).trans (zero2_host m c _)) (fun hp h d => hfin R h p hp d)

set_option maxHeartbeats 4000000 in
/-- The first array the kernel leaves. -/
theorem final9 (m : (ℓ : Loc nD τ sig) → Buf (Elt Ideal) ℓ) (c : Dev nD) (hfin : Finite m c) :
    (dats (F := Ideal) m 0 c).arrAt 9 cfg0.N
      = res1 (m (c.tc.loc main_arg0)) (m (c.tc.loc main_arg1)) (m (c.tc.loc main_arg2)) (m (c.tc.loc main_arg3)) := by
  refine (dats (F := Ideal) m 0 c).arrAt_eq_of_covers 9 _ (by decide +kernel) fun t hf y => ?_
  blk_simp
  obtain ⟨-, -, -, -, -, -, -, -, -, e, -⟩ := idx t
  idx_vars y
  have hE : ((View.whole main_v90_0).slice (win0_9.rect t)).emb (ix5 y0 y1 y2 y3 y4) = ix5 (grid0.coords t 0) y1 y2 y3 y4 := by
    blk_ext [e]
  rw [block1, res1, hE]
  refine (slots_at _ _ _ _).trans (tile0 m c hfin t y2 _ y4 _ ?_)
  show (grid0.coords t 0).val * 512 + y3.val + y1.val = (grid0.coords t 0).val * 512 + (y3.val + y1.val)
  omega

set_option maxHeartbeats 4000000 in
/-- The second array the kernel leaves. -/
theorem final10 (m : (ℓ : Loc nD τ sig) → Buf (Elt Ideal) ℓ) (c : Dev nD) (hfin : Finite m c) :
    (dats (F := Ideal) m 0 c).arrAt 10 cfg0.N
      = res4 (m (c.tc.loc main_arg0)) (m (c.tc.loc main_arg1)) (m (c.tc.loc main_arg2)) (m (c.tc.loc main_arg3)) := by
  refine (dats (F := Ideal) m 0 c).arrAt_eq_of_covers 10 _ (by decide +kernel) fun t hf y => ?_
  blk_simp
  obtain ⟨-, -, -, -, -, -, -, -, -, -, e, -⟩ := idx t
  idx_vars y
  have hE : ((View.whole main_v90_1).slice (win0_10.rect t)).emb (ix5 y0 y1 y2 y3 y4) = ix5 (grid0.coords t 0) y1 y2 y3 y4 := by
    blk_ext [e]
  rw [block4, res4, hE]
  refine (slots_at _ _ _ _).trans (tile1 m c hfin t y2 _ y4 _ ?_)
  show (grid0.coords t 0).val * 512 + y3.val * 4 + y1.val = (grid0.coords t 0).val * 512 + (y1.val + 4 * y3.val)
  omega

set_option maxHeartbeats 4000000 in
/-- The third array the kernel leaves. -/
theorem final11 (m : (ℓ : Loc nD τ sig) → Buf (Elt Ideal) ℓ) (c : Dev nD) (hfin : Finite m c) :
    (dats (F := Ideal) m 0 c).arrAt 11 cfg0.N
      = res16 (m (c.tc.loc main_arg0)) (m (c.tc.loc main_arg1)) (m (c.tc.loc main_arg2)) (m (c.tc.loc main_arg3)) := by
  refine (dats (F := Ideal) m 0 c).arrAt_eq_of_covers 11 _ (by decide +kernel) fun t hf y => ?_
  blk_simp
  obtain ⟨-, -, -, -, -, -, -, -, -, -, -, e⟩ := idx t
  idx_vars y
  have hE : ((View.whole main_v90_2).slice (win0_11.rect t)).emb (ix5 y0 y1 y2 y3 y4) = ix5 (grid0.coords t 0) y1 y2 y3 y4 := by
    blk_ext [e]
  rw [block16, res16, hE]
  refine (slots_at _ _ _ _).trans (tile2 m c hfin t y2 _ y4 _ ?_)
  show (grid0.coords t 0).val * 512 + y3.val * 16 + y1.val = (grid0.coords t 0).val * 512 + (y1.val + 16 * y3.val)
  omega

end Cert.Proof.Heads

end
-- ==== Proof.Mix.lean ====
/-
  Three numbers mixed with the softmax of three others, over the extended reals: dividing each exponential by the sum first, or
  the weighted sum at the end, gives the same, provided the three exponents are finite.
-/
module

public import Idealize.ShloMosaic.Lib.IdealHost

@[expose] public section

noncomputable section

namespace Cert.Proof.Mix

open Idealize.ShloMosaic

/-- The exponential of `l`, less the largest of the three. -/
def part (l0 l1 l2 l : EReal) : EReal := Ideal.exp (l - max (max l0 l1) l2)

/-- The sum of the three exponentials. -/
def total (l0 l1 l2 : EReal) : EReal := part l0 l1 l2 l0 + part l0 l1 l2 l1 + part l0 l1 l2 l2

/-- The softmax of the `l`s, times the `o`s. -/
def soft (l0 l1 l2 o0 o1 o2 : EReal) : EReal :=
  Ideal.div (part l0 l1 l2 l0) (total l0 l1 l2) * o0 + Ideal.div (part l0 l1 l2 l1) (total l0 l1 l2) * o1
    + Ideal.div (part l0 l1 l2 l2) (total l0 l1 l2) * o2

/-- The weighted sum first, then one division. -/
def mix (l0 l1 l2 o0 o1 o2 : EReal) : EReal :=
  Ideal.div (part l0 l1 l2 l0 * o0 + part l0 l1 l2 l1 * o1 + part l0 l1 l2 l2 * o2) (total l0 l1 l2)

/-- At finite exponents the two are equal: the sum is a positive real number, and a real factor distributes. -/
theorem mix_eq (a b c : ℝ) (o0 o1 o2 : EReal) : mix a b c o0 o1 o2 = soft a b c o0 o1 o2 := by
  have hm : max (max (a : EReal) b) c = ((max (max a b) c : ℝ) : EReal) := by
    rw [EReal.coe_strictMono.monotone.map_max, EReal.coe_strictMono.monotone.map_max]
  have hp : ∀ d : ℝ, part a b c d = ((Real.exp (d - max (max a b) c) : ℝ) : EReal) := fun d => by
    unfold part; rw [hm, ← EReal.coe_sub]; rfl
  have ht : total a b c = ((Real.exp (a - max (max a b) c) + Real.exp (b - max (max a b) c)
      + Real.exp (c - max (max a b) c) : ℝ) : EReal) := by
    unfold total; rw [hp, hp, hp, ← EReal.coe_add, ← EReal.coe_add]
  have hpos := add_pos (add_pos (Real.exp_pos (a - max (max a b) c)) (Real.exp_pos (b - max (max a b) c)))
    (Real.exp_pos (c - max (max a b) c))
  have hne : total a b c ≠ 0 := by rw [ht]; exact_mod_cast hpos.ne'
  unfold mix soft Ideal.div
  simp only [hne, if_false]
  have hi : (total a b c)⁻¹ = (((Real.exp (a - max (max a b) c) + Real.exp (b - max (max a b) c)
      + Real.exp (c - max (max a b) c))⁻¹ : ℝ) : EReal) := by rw [ht, EReal.coe_inv]
  have h0 : (0 : EReal) ≤ (total a b c)⁻¹ := by rw [hi]; exact_mod_cast (inv_pos.mpr hpos).le
  have h1 : (total a b c)⁻¹ ≠ ⊤ := by rw [hi]; exact EReal.coe_ne_top _
  rw [EReal.right_distrib_of_nonneg_of_ne_top h0 h1, EReal.right_distrib_of_nonneg_of_ne_top h0 h1,
    mul_right_comm, mul_right_comm (part a b c b), mul_right_comm (part a b c c)]

/-- The largest of three, as a reduction that starts at the least number writes it. -/
theorem fold_max (f : Fin 3 → EReal) : Finset.univ.fold max ⊥ f = max (max (f 0) (f 1)) (f 2) := by
  simp [Fin.univ_succ, max_assoc]

end Cert.Proof.Mix

end
-- ==== Proof.MergeRef.lean ====
/-
  The merge of the three mixers: what the plain reference computes, at every element.  Token `r` is row `r % 512` of tile
  `r / 512`; a result of the dilated mixer with `d` classes holds it as row `r % 512 / d` of class `r % d`.
-/
module

public import proofs.«01_k».proof.Proof.Gen.Reference4Ideal.Run
public import proofs.«01_k».proof.Proof.Mix
public import Idealize.ShloMosaic.Lib.Pointwise
public import Idealize.ShloMosaic.Lib.Claim

@[expose] public section

set_option maxRecDepth 16384

noncomputable section

namespace Cert.Proof.Merge

open Idealize.ShloMosaic Idealize.ShloMosaic.TcCoe Idealize.SL.Sem

/-- Column `k` of part `p` of the gates. -/
def gcol (p : Fin 3) (k : Fin 1024) : Fin 3072 := ⟨1024 * p + k, by omega⟩

/-- One row's merge: the three mixers' rows through their weights, gated, added, and through the last weight. -/
def mergeRow (x : EReal) (a b : Fin 512 → EReal) (o : Fin 256 → EReal) (g : Fin 3072 → EReal) (wa wb : Fin 512 → Fin 1024 → EReal)
    (wc : Fin 256 → Fin 1024 → EReal) (w : Fin 1024 → EReal) : EReal :=
  x + ∑ k, (g (gcol 0 k) * ∑ j, a j * wa j k + g (gcol 1 k) * ∑ j, b j * wb j k + g (gcol 2 k) * ∑ j, o j * wc j k) * w k

/-- Where token `r` stands in an array held in one class. -/
def tok1 (r : Fin 32768) (k : Fin 256) : Cert.Reference4Ideal.S64x1x512x256.Idx :=
  ix4 (⟨r / 512, by omega⟩ : Fin 64) (0 : Fin 1) (⟨r % 512, by omega⟩ : Fin 512) k

/-- Where token `r` stands in an array held in four classes. -/
def tok4 (r : Fin 32768) (k : Fin 256) : Cert.Reference4Ideal.S64x4x128x256.Idx :=
  ix4 (⟨r / 512, by omega⟩ : Fin 64) (⟨r % 4, by omega⟩ : Fin 4) (⟨r / 4 % 128, by omega⟩ : Fin 128) k

/-- Where token `r` stands in an array held in sixteen classes. -/
def tok16 (r : Fin 32768) (k : Fin 256) : Cert.Reference4Ideal.S64x16x32x256.Idx :=
  ix4 (⟨r / 512, by omega⟩ : Fin 64) (⟨r % 16, by omega⟩ : Fin 16) (⟨r / 16 % 32, by omega⟩ : Fin 32) k

/-- The result at an element, from the fourteen arguments. -/
def merged (x : Cert.Reference4Ideal.S32768x1024.Idx → EReal) (a b : Cert.Reference4Ideal.S32768x512.Idx → EReal)
    (o0 l0 : Cert.Reference4Ideal.S64x1x512x256.Idx → EReal) (o1 l1 : Cert.Reference4Ideal.S64x4x128x256.Idx → EReal)
    (o2 l2 : Cert.Reference4Ideal.S64x16x32x256.Idx → EReal) (g : Cert.Reference4Ideal.S32768x3072.Idx → EReal)
    (wa wb : Cert.Reference4Ideal.S512x1024.Idx → EReal) (wc : Cert.Reference4Ideal.S256x1024.Idx → EReal)
    (w : Cert.Reference4Ideal.S1024x1024.Idx → EReal) (i : Cert.Reference4Ideal.S32768x1024.Idx) : EReal :=
  mergeRow (x i) (fun j => a (ix2 (i 0) j)) (fun j => b (ix2 (i 0) j))
    (fun j => Mix.soft (l0 (tok1 (i 0) j)) (l1 (tok4 (i 0) j)) (l2 (tok16 (i 0) j))
      (o0 (tok1 (i 0) j)) (o1 (tok4 (i 0) j)) (o2 (tok16 (i 0) j)))
    (fun k => g (ix2 (i 0) k)) (fun j k => wa (ix2 j k)) (fun j k => wb (ix2 j k)) (fun j k => wc (ix2 j k))
    (fun k => w (ix2 k (i 1)))

open Cert.Reference4Ideal Cert.Reference4Ideal.Gen

/-- The largest of a stack of three, as the reference writes it. -/
def largest (A : FVec Ideal S3x32768x256 .f32) : FVec Ideal S32768x256 .f32 :=
  maximumf (broadcastInDim S32768x256 ![] bcast_S_S32768x256 (constant S_ .f32 0xFF800000#32))
    (Host.reduce FloatOps.maximumf A (constant S_ .f32 0xFF800000#32) reducesTo_S3x32768x256_S32768x256_d0 h_S_)

/-- The exponentials of a stack of three, less the largest, as the reference writes them. -/
def expd (A : FVec Ideal S3x32768x256 .f32) : FVec Ideal S3x32768x256 .f32 :=
  Host.exp (subf A (broadcastInDim S3x32768x256 ![0, 1, 2] bcast_S1x32768x256_S3x32768x256_0_1_2
    (broadcastInDim S1x32768x256 ![1, 2] bcast_S32768x256_S1x32768x256_1_2 (largest A))))

/-- The softmax of a stack of three, as the reference writes it. -/
def weights (A : FVec Ideal S3x32768x256 .f32) : FVec Ideal S3x32768x256 .f32 :=
  Host.divf (expd A) (broadcastInDim S3x32768x256 ![0, 1, 2] bcast_S1x32768x256_S3x32768x256_0_1_2
    (broadcastInDim S1x32768x256 ![1, 2] bcast_S32768x256_S1x32768x256_1_2
      (Host.reduceAdd (expd A) (constant S_ .f32 0x00000000#32) reducesTo_S3x32768x256_S32768x256_d0 h_S_)))

/-- The larger of the least number and an array, at an element. -/
theorem least_max_apply (R : FVec Ideal S32768x256 .f32) (r : Fin 32768) (k : Fin 256) :
    maximumf (broadcastInDim S32768x256 ![] bcast_S_S32768x256 (constant (F := Ideal) S_ .f32 0xFF800000#32)) R (ix2 r k) = R (ix2 r k) := by
  have hb : Ideal.ofBits .f32 4286578688#32 = ⊥ := by simp [Ideal.ofBits, Ideal.ieee]
  pointwise
  rw [hb]
  exact max_eq_right bot_le

/-- A reduction of a stack of three to its largest, at an element. -/
theorem reduce_max_apply (A : FVec Ideal S3x32768x256 .f32) (r : Fin 32768) (k : Fin 256) :
    Host.reduce FloatOps.maximumf A (constant S_ .f32 0xFF800000#32) reducesTo_S3x32768x256_S32768x256_d0 h_S_ (ix2 r k)
      = max (max (A (ix3 0 r k)) (A (ix3 1 r k))) (A (ix3 2 r k)) := by
  have hb : Ideal.ofBits .f32 4286578688#32 = ⊥ := by simp [Ideal.ofBits, Ideal.ieee]
  rw [← Mix.fold_max fun p => A (ix3 p r k), ← hb]
  pointwise

/-- The largest of a stack, at an element. -/
theorem largest_apply (A : FVec Ideal S3x32768x256 .f32) (r : Fin 32768) (k : Fin 256) :
    largest A (ix2 r k) = max (max (A (ix3 0 r k)) (A (ix3 1 r k))) (A (ix3 2 r k)) := by
  unfold largest
  rw [least_max_apply, reduce_max_apply]

/-- The exponentials of a stack, at an element. -/
theorem expd_apply (A : FVec Ideal S3x32768x256 .f32) (p : Fin 3) (r : Fin 32768) (k : Fin 256) :
    expd A (ix3 p r k) = Mix.part (A (ix3 0 r k)) (A (ix3 1 r k)) (A (ix3 2 r k)) (A (ix3 p r k)) := by
  unfold expd Mix.part
  rw [← largest_apply]
  pointwise

/-- The softmax of a stack, at an element. -/
theorem weights_apply (A : FVec Ideal S3x32768x256 .f32) (p : Fin 3) (r : Fin 32768) (k : Fin 256) :
    weights A (ix3 p r k) = Ideal.div (Mix.part (A (ix3 0 r k)) (A (ix3 1 r k)) (A (ix3 2 r k)) (A (ix3 p r k)))
      (Mix.total (A (ix3 0 r k)) (A (ix3 1 r k)) (A (ix3 2 r k))) := by
  unfold weights Mix.total
  pointwise [expd_apply]
  simp only [Fin.sum_univ_three, expd_apply]

/-- The three results' log-sum-exps, in the tokens' order, stacked. -/
def stacked (l0 : FVec Ideal S64x1x512x256 .f32) (l1 : FVec Ideal S64x4x128x256 .f32) (l2 : FVec Ideal S64x16x32x256 .f32) :
    FVec Ideal S3x32768x256 .f32 :=
  concatenate S3x32768x256 0 [
    ⟨S1x32768x256, broadcastInDim S1x32768x256 ![1, 2] bcast_S32768x256_S1x32768x256_1_2 (shapeCast S32768x256
      (transpose S64x512x1x256 [0, 2, 1, 3] l0 transposes_S64x1x512x256_S64x512x1x256_0_2_1_3) shapeCasts_S64x512x1x256_S32768x256)⟩,
    ⟨S1x32768x256, broadcastInDim S1x32768x256 ![1, 2] bcast_S32768x256_S1x32768x256_1_2 (shapeCast S32768x256
      (transpose S64x128x4x256 [0, 2, 1, 3] l1 transposes_S64x4x128x256_S64x128x4x256_0_2_1_3) shapeCasts_S64x128x4x256_S32768x256)⟩,
    ⟨S1x32768x256, broadcastInDim S1x32768x256 ![1, 2] bcast_S32768x256_S1x32768x256_1_2 (shapeCast S32768x256
      (transpose S64x32x16x256 [0, 2, 1, 3] l2 transposes_S64x16x32x256_S64x32x16x256_0_2_1_3) shapeCasts_S64x32x16x256_S32768x256)⟩]
    concatenates_S1x32768x256_S1x32768x256_S1x32768x256_S3x32768x256_d0

/-- The stacked log-sum-exps, at an element: the three arrays at the places where the token stands. -/
theorem stacked_apply (l0 : FVec Ideal S64x1x512x256 .f32) (l1 : FVec Ideal S64x4x128x256 .f32) (l2 : FVec Ideal S64x16x32x256 .f32)
    (r : Fin 32768) (k : Fin 256) : stacked l0 l1 l2 (ix3 0 r k) = l0 (tok1 r k) ∧ stacked l0 l1 l2 (ix3 1 r k) = l1 (tok4 r k)
      ∧ stacked l0 l1 l2 (ix3 2 r k) = l2 (tok16 r k) := by
  refine ⟨?_, ?_, ?_⟩
  · unfold stacked
    pointwise [tok1]
  · unfold stacked
    pointwise [tok4]
  · unfold stacked
    pointwise [tok16]

/-- A dilated mixer's result in the tokens' order, as the reference writes it: of one class. -/
def tokens1 (o : FVec Ideal S64x1x512x256 .f32) : FVec Ideal S32768x256 .f32 :=
  shapeCast S32768x256 (transpose S64x512x1x256 [0, 2, 1, 3] o transposes_S64x1x512x256_S64x512x1x256_0_2_1_3) shapeCasts_S64x512x1x256_S32768x256

/-- The same, of four classes. -/
def tokens4 (o : FVec Ideal S64x4x128x256 .f32) : FVec Ideal S32768x256 .f32 :=
  shapeCast S32768x256 (transpose S64x128x4x256 [0, 2, 1, 3] o transposes_S64x4x128x256_S64x128x4x256_0_2_1_3) shapeCasts_S64x128x4x256_S32768x256

/-- The same, of sixteen classes. -/
def tokens16 (o : FVec Ideal S64x16x32x256 .f32) : FVec Ideal S32768x256 .f32 :=
  shapeCast S32768x256 (transpose S64x32x16x256 [0, 2, 1, 3] o transposes_S64x16x32x256_S64x32x16x256_0_2_1_3) shapeCasts_S64x32x16x256_S32768x256

/-- The three dilated results mixed by the weights `W`, as the reference writes it. -/
def mixed (W : FVec Ideal S3x32768x256 .f32) (o0 : FVec Ideal S64x1x512x256 .f32) (o1 : FVec Ideal S64x4x128x256 .f32)
    (o2 : FVec Ideal S64x16x32x256 .f32) : FVec Ideal S32768x256 .f32 :=
  addf (addf (mulf (shapeCast S32768x256 (extractStridedSlice S1x32768x256 ![0, 0, 0] W slices_S3x32768x256_S1x32768x256_0_0_0)
        shapeCasts_S1x32768x256_S32768x256) (tokens1 o0))
      (mulf (shapeCast S32768x256 (extractStridedSlice S1x32768x256 ![1, 0, 0] W slices_S3x32768x256_S1x32768x256_1_0_0)
        shapeCasts_S1x32768x256_S32768x256) (tokens4 o1)))
    (mulf (shapeCast S32768x256 (extractStridedSlice S1x32768x256 ![2, 0, 0] W slices_S3x32768x256_S1x32768x256_2_0_0)
      shapeCasts_S1x32768x256_S32768x256) (tokens16 o2))

/-- The mixed dilated results, at an element. -/
theorem mixed_apply (l0 : FVec Ideal S64x1x512x256 .f32) (l1 : FVec Ideal S64x4x128x256 .f32) (l2 : FVec Ideal S64x16x32x256 .f32)
    (o0 : FVec Ideal S64x1x512x256 .f32) (o1 : FVec Ideal S64x4x128x256 .f32) (o2 : FVec Ideal S64x16x32x256 .f32)
    (r : Fin 32768) (k : Fin 256) : mixed (weights (stacked l0 l1 l2)) o0 o1 o2 (ix2 r k)
      = Mix.soft (l0 (tok1 r k)) (l1 (tok4 r k)) (l2 (tok16 r k)) (o0 (tok1 r k)) (o1 (tok4 r k)) (o2 (tok16 r k)) := by
  obtain ⟨h0, h1, h2⟩ := stacked_apply l0 l1 l2 r k
  have w := fun p => weights_apply (stacked l0 l1 l2) p r k
  rw [h0, h1, h2] at w
  generalize weights (stacked l0 l1 l2) = W at w ⊢
  unfold mixed tokens1 tokens4 tokens16 Mix.soft
  pointwise [tok1, tok4, tok16]
  rw [w 0, w 1, w 2, h0, h1, h2]
  rfl

/-- The merge as the reference writes it, from the mixed dilated results. -/
def refOut (x : FVec Ideal S32768x1024 .f32) (a b : FVec Ideal S32768x512 .bf16) (y : FVec Ideal S32768x256 .f32)
    (g : FVec Ideal S32768x3072 .bf16) (wa wb : FVec Ideal S512x1024 .f32) (wc : FVec Ideal S256x1024 .f32)
    (w : FVec Ideal S1024x1024 .f32) : FVec Ideal S32768x1024 .f32 :=
  addf x (Host.dotGeneral dot_S32768x1024_S1024x1024_S32768x1024_1_0_0_1_n_n none
    (addf (addf
      (mulf (extractStridedSlice S32768x1024 ![0, 0] (extf .f32 g bitsLt_bf16_f32) slices_S32768x3072_S32768x1024_0_0)
        (Host.dotGeneral dot_S32768x512_S512x1024_S32768x1024_1_0_0_1_n_n none (extf .f32 a bitsLt_bf16_f32) wa))
      (mulf (extractStridedSlice S32768x1024 ![0, 1024] (extf .f32 g bitsLt_bf16_f32) slices_S32768x3072_S32768x1024_0_1024)
        (Host.dotGeneral dot_S32768x512_S512x1024_S32768x1024_1_0_0_1_n_n none (extf .f32 b bitsLt_bf16_f32) wb)))
      (mulf (extractStridedSlice S32768x1024 ![0, 2048] (extf .f32 g bitsLt_bf16_f32) slices_S32768x3072_S32768x1024_0_2048)
        (Host.dotGeneral dot_S32768x256_S256x1024_S32768x1024_1_0_0_1_n_n none y wc))) w)

/-- The merge as the reference writes it, at an element. -/
theorem refOut_apply (x : FVec Ideal S32768x1024 .f32) (a b : FVec Ideal S32768x512 .bf16) (y : FVec Ideal S32768x256 .f32)
    (g : FVec Ideal S32768x3072 .bf16) (wa wb : FVec Ideal S512x1024 .f32) (wc : FVec Ideal S256x1024 .f32)
    (w : FVec Ideal S1024x1024 .f32) (r : Fin 32768) (l : Fin 1024) : refOut x a b y g wa wb wc w (ix2 r l)
      = mergeRow (x (ix2 r l)) (fun j => a (ix2 r j)) (fun j => b (ix2 r j)) (fun j => y (ix2 r j)) (fun k => g (ix2 r k))
          (fun j k => wa (ix2 j k)) (fun j k => wb (ix2 j k)) (fun j k => wc (ix2 j k)) (fun k => w (ix2 k l)) := by
  unfold refOut mergeRow
  pointwise [gcol]

/-- The reference's result, at every element. -/
theorem ref_eq (m : (ℓ : Loc nD τ sig) → Buf (Elt Ideal) ℓ) (c : Dev nD) :
    Value.res_main_v53 (F := Ideal) m c
      = merged (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) (m (c.tc.loc main_arg10)) (m (c.tc.loc main_arg11))
          (m (c.tc.loc main_arg12)) (m (c.tc.loc main_arg13)) := by
  funext i
  obtain ⟨r, l, rfl⟩ : ∃ r l, i = ix2 r l := ⟨i 0, i 1, eq_ix2 i⟩
  refine (refOut_apply (m (c.tc.loc main_arg0)) (m (c.tc.loc main_arg1)) (m (c.tc.loc main_arg2))
    (mixed (weights (stacked (m (c.tc.loc main_arg4)) (m (c.tc.loc main_arg6)) (m (c.tc.loc main_arg8))))
      (m (c.tc.loc main_arg3)) (m (c.tc.loc main_arg5)) (m (c.tc.loc main_arg7)))
    (m (c.tc.loc main_arg9)) (m (c.tc.loc main_arg10)) (m (c.tc.loc main_arg11)) (m (c.tc.loc main_arg12)) (m (c.tc.loc main_arg13)) r l).trans ?_
  simp only [mixed_apply]
  rfl

/-- The reference's run: its result, and the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v53)
          = merged (m (c.tc.loc main_arg0)) (m (c.tc.loc main_arg1)) (m (c.tc.loc main_arg2))
              (m (c.tc.loc main_arg3)) (m (c.tc.loc main_arg4)) (m (c.tc.loc main_arg5)) (m (c.tc.loc main_arg6))
              (m (c.tc.loc main_arg7)) (m (c.tc.loc main_arg8)) (m (c.tc.loc main_arg9)) (m (c.tc.loc main_arg10))
              (m (c.tc.loc main_arg11)) (m (c.tc.loc main_arg12)) (m (c.tc.loc main_arg13))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13) :=
  (θ_run (defs (F := Ideal)) _ _).mono (fun _ h c => ⟨(h c).1.trans (ref_eq m c), (h c).2⟩) (Value.run (F := Ideal) m ρ)

end Cert.Proof.Merge

end
-- ==== Proof.Lse.lean ====
/-
  What the merge's precondition says: every log-sum-exp, at every token, is a real number.
-/
module

public import proofs.«01_k».proof.Proof.Gen.Pre_lse_finite
public import proofs.«01_k».proof.Proof.MergeRef
public import Idealize.ShloMosaic.Lib.Pointwise

@[expose] public section

set_option maxRecDepth 16384

noncomputable section

namespace Cert.Proof.Merge

open Idealize.ShloMosaic Cert.Pre_lse_finite

/-- A number whose absolute value is below infinity is real. -/
theorem real_of_abs_lt (v : EReal)
    (h : BitVec.ofBool (decide (FloatOps.absf (F := Ideal) (φ := .f32) v < Ideal.ofBits .f32 2139095040#32)) = 1#1) : ∃ u : ℝ, v = u := by
  have ht : Ideal.ofBits .f32 2139095040#32 = ⊤ := by simp [Ideal.ofBits, Ideal.ieee]
  rw [ht] at h
  have h : max v (-v) < ⊤ := by
    by_contra hn
    have hd : decide (FloatOps.absf (F := Ideal) (φ := .f32) v < (⊤ : EReal)) = false := decide_eq_false hn
    rw [hd] at h
    exact absurd h (by decide)
  induction v using EReal.rec with
  | bot => simp at h
  | top => simp at h
  | coe u => exact ⟨u, rfl⟩

/-- Two bits whose conjunction is one are both one. -/
theorem both (p q : BitVec 1) (h : IntOp.andi p q = 1#1) : p = 1#1 ∧ q = 1#1 := by
  revert p q
  decide

/-- The precondition, at a token's lane: the three log-sum-exps are real numbers. -/
theorem finite (x : FVec Ideal S32768x1024 .f32) (a b : FVec Ideal S32768x512 .bf16) (o0 l0 : FVec Ideal S64x1x512x256 .f32)
    (o1 l1 : FVec Ideal S64x4x128x256 .f32) (o2 l2 : FVec Ideal S64x16x32x256 .f32) (g : FVec Ideal S32768x3072 .bf16)
    (wa wb : FVec Ideal S512x1024 .f32) (wc : FVec Ideal S256x1024 .f32) (w : FVec Ideal S1024x1024 .f32)
    (h : (letI := Gen.facts; fn (F := Ideal) x a b o0 l0 o1 l1 o2 l2 g wa wb wc w) = fun _ => 1#1) (r : Fin 32768) (k : Fin 256) :
    (∃ v : ℝ, l0 (tok1 r k) = v) ∧ (∃ v : ℝ, l1 (tok4 r k) = v) ∧ ∃ v : ℝ, l2 (tok16 r k) = v := by
  have h := congrFun h (ix2 r k)
  pointwise [fn] at h
  obtain ⟨h, h2⟩ := both _ _ h
  obtain ⟨h0, h1⟩ := both _ _ h
  exact ⟨real_of_abs_lt _ h0, real_of_abs_lt _ h1, real_of_abs_lt _ h2⟩

end Cert.Proof.Merge

end
-- ==== Proof.HeadsFinite.lean ====
/-
  What the precondition of the projection with a norm for each head says: every column of the queries and keys is a real number.
-/
module

public import proofs.«01_k».proof.Proof.Gen.Pre_qk_finite
public import proofs.«01_k».proof.Proof.Lse
public import proofs.«01_k».proof.Proof.Heads

@[expose] public section

set_option maxRecDepth 16384

noncomputable section

namespace Cert.Proof.Heads

open Idealize.ShloMosaic Cert.Pre_qk_finite Cert.Proof.Rows

/-- A column of the weight among the queries' and keys' columns alone. -/
def own (p : Fin 3) (hp : p ≠ 2) (h : Fin 12) (d : Fin 64) : Fin 1536 := ⟨p * 768 + h * 64 + d, by omega⟩

/-- The precondition, at a column: the projection there is a real number. -/
theorem finite (x : FVec Ideal S32768x1024 .f32) (g : FVec Ideal S1024 .f32) (w : FVec Ideal S1024x7644 .f32) (qk : FVec Ideal S6x64 .f32)
    (h : (letI := Gen.facts; fn (F := Ideal) x g w qk) = fun _ => 1#1) (r : Fin 32768) (a : Fin 12) (p : Fin 3)
    (hp : p ≠ 2) (d : Fin 64) :
    ∃ v : ℝ, proj (fun k => x (ix2 r k)) (fun k => g (ix1 k)) (fun k l => w (ix2 k l)) a p d = v := by
  have h := congrFun h (ix2 r (own p hp a d))
  pointwise [fn] at h
  have h := Merge.real_of_abs_lt _ h
  unfold proj normed
  exact h

end Cert.Proof.Heads

end
-- ==== Proof.Strided.lean ====
/-
  A scratch of slots, 512 rows of 128 lanes each, that is filled by strided stores: an array held class by class (class q of d
  classes holds the rows q, q + d, q + 2d, …) is put back into its natural order, every class stored at its rows, the two
  halves of its 256 lanes in two neighbouring slots.  Read back whole, a slot holds the natural order.
-/
module

public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Proof.Strided

open Idealize.ShloMosaic Cert.Kernel4Ideal

/-- Among the stores `L` there is, for every class `q` of `d`, one at the rows `q, q + d, …` of slot `k`. -/
def fills (k d : ℕ) (L : List (View.Piece (Elt Ideal) S12x512x128 .f32)) : Bool :=
  (List.range d).all fun q => L.any fun p =>
    p.1.off 0 == k && p.1.off 1 == q && p.1.off 2 == 0 && p.1.size 0 == 1 && p.1.size 1 * d == 512 && p.1.size 2 == 128
      && p.1.stride 0 == 1 && p.1.stride 1 == d && p.1.stride 2 == 1

/-- If the last `n` stores are all blocks of `G` and fill slot `k`, the load of slot `k` reads `G`. -/
theorem slot {κ : Kind} {sp : Space} {sig : RefSig} (v : View sig κ sp S12x512x128 .f32)
    (L : List (View.Piece (Elt Ideal) S12x512x128 .f32)) (k d n : ℕ) (hd : 0 < d)
    (inb : ∀ a, (![k, 0, 0] : Fin 3 → ℕ) a + (![1, 512, 128] : Fin 3 → ℕ) a ≤ S12x512x128.size a)
    (G : S12x512x128.Idx → Elt Ideal .f32) (h : View.PiecesOf G (L.take n)) (hc : fills k d (L.take n) = true) :
    v.readCov L (Rect.unit (s := S12x512x128) ![k, 0, 0] ![1, 512, 128] inb).toLoadRect
      = View.ld G (Rect.unit (s := S12x512x128) ![k, 0, 0] ![1, 512, 128] inb) := by
  rw [View.readCov_eq_canon']
  funext x
  rw [← List.take_append_drop n L]
  refine View.canon_append_of_piecesOf G _ _ h _ ?_
  have hq := (List.all_eq_true.mp hc) ((x 1 : ℕ) % d) (List.mem_range.mpr (Nat.mod_lt _ hd))
  obtain ⟨p, hp, hb⟩ := List.any_eq_true.mp hq
  simp only [Bool.and_eq_true, beq_iff_eq] at hb
  obtain ⟨⟨⟨⟨⟨⟨⟨⟨h0, h1⟩, h2⟩, h3⟩, h4⟩, h5⟩, h6⟩, h7⟩, h8⟩ := hb
  refine ⟨p, hp, (LoadRect.mem_set _).mpr fun a => ?_⟩
  have x0 : (x 0 : ℕ) < 1 := (x 0).isLt
  have x1 : (x 1 : ℕ) < 512 := (x 1).isLt
  have x2 : (x 2 : ℕ) < 128 := (x 2).isLt
  match a with
  | 0 => exact ⟨0, by show 0 < p.1.size 0; omega, by show k + 1 * (x 0 : ℕ) = p.1.off 0 + p.1.stride 0 * 0; omega⟩
  | 1 =>
    refine ⟨(x 1 : ℕ) / d, Nat.div_lt_of_lt_mul ?_, ?_⟩
    · show (x 1 : ℕ) < d * p.1.size 1
      rw [mul_comm, h4]; exact x1
    · show 0 + 1 * (x 1 : ℕ) = p.1.off 1 + p.1.stride 1 * ((x 1 : ℕ) / d)
      rw [h1, h7, Nat.mod_add_div]; omega
  | 2 => exact ⟨(x 2 : ℕ), by show (x 2 : ℕ) < p.1.size 2; omega,
      by show 0 + 1 * (x 2 : ℕ) = p.1.off 2 + p.1.stride 2 * (x 2 : ℕ); rw [h2, h8]⟩

end Cert.Proof.Strided

end
-- ==== Proof.MergeSlots.lean ====
module

public import proofs.«01_k».proof.Proof.Gen.Kernel4Ideal.Value
public import proofs.«01_k».proof.Proof.MergeRef
public import proofs.«01_k».proof.Proof.Strided
public import Idealize.ShloMosaic.Lib.Pointwise
public import Idealize.ShloMosaic.Lib.Claim
public import Idealize.ShloMosaic.Lib.IdealHost
public import Idealize.ShloMosaic.Lib.Pipeline.ValueKit
public import Idealize.ShloMosaic.Lib.Pipeline.ReadBack

@[expose] public section

set_option maxRecDepth 16384

noncomputable section

namespace Cert.Proof.Merge

open Idealize.ShloMosaic Idealize.ShloMosaic.TcCoe Idealize.SL.Sem

open Cert.Kernel4Ideal in
/-- Where row `r` of a tile, at lane `l` of slot `s`, stands in an array held in four classes. -/
def pos4 (s : Fin 12) (r : Fin 512) (l : Fin 128) : S1x4x128x256.Idx :=
  ix4 0 (⟨r % 4, Nat.mod_lt _ (by decide)⟩ : Fin 4) (⟨r / 4, by omega⟩ : Fin 128) (⟨s % 2 * 128 + l, by omega⟩ : Fin 256)

open Cert.Kernel4Ideal in
/-- A tile in four classes, put into natural order and cut into two slots by its lanes. -/
def nat4 (X : Vec Ideal S1x4x128x256 .f32) (i : S12x512x128.Idx) : Elt Ideal .f32 :=
  X (pos4 (i 0) (i 1) (i 2))

open Cert.Kernel4Ideal in
/-- Where row `r` of a tile, at lane `l` of slot `s`, stands in an array held in sixteen classes. -/
def pos16 (s : Fin 12) (r : Fin 512) (l : Fin 128) : S1x16x32x256.Idx :=
  ix4 0 (⟨r % 16, Nat.mod_lt _ (by decide)⟩ : Fin 16) (⟨r / 16, by omega⟩ : Fin 32) (⟨s % 2 * 128 + l, by omega⟩ : Fin 256)

open Cert.Kernel4Ideal in
/-- A tile in sixteen classes, put into natural order and cut into two slots by its lanes. -/
def nat16 (X : Vec Ideal S1x16x32x256 .f32) (i : S12x512x128.Idx) : Elt Ideal .f32 :=
  X (pos16 (i 0) (i 1) (i 2))

open Cert.Kernel4Ideal in
/-- Where row `r` of a tile, at lane `l`, stands in an array held in four classes. -/
def at4 (r : Fin 512) (l : Fin 256) : S1x4x128x256.Idx :=
  ix4 0 (⟨r % 4, Nat.mod_lt _ (by decide)⟩ : Fin 4) (⟨r / 4, by omega⟩ : Fin 128) l

open Cert.Kernel4Ideal in
/-- The two slots of an array in four classes, joined along the lanes: every row of the tile, with its 256 lanes. -/
theorem join4 (X : Vec Ideal S1x4x128x256 .f32) (k k' : ℕ) (hk : k % 2 = 0) (hk' : k' % 2 = 1) (inb) (inb') (hs) (hs') (hc) :
    concatenate S512x256 1
      [⟨S512x128, shapeCast (s := S1x512x128) S512x128 (View.ld (nat4 X) (Rect.unit (s := S12x512x128) ![k, 0, 0] ![1, 512, 128] inb)) hs⟩,
        ⟨S512x128, shapeCast (s := S1x512x128) S512x128 (View.ld (nat4 X) (Rect.unit (s := S12x512x128) ![k', 0, 0] ![1, 512, 128] inb')) hs'⟩]
      hc
      = fun i : S512x256.Idx => X (at4 (i 0) (i 1)) := by
  funext i
  idx_vars i
  pointwise [nat4, pos4, at4]
  split_ifs <;> (congr 1; blk_ext [hk, hk'])

open Cert.Kernel4Ideal in
/-- Where row `r` of a tile, at lane `l`, stands in an array held in sixteen classes. -/
def at16 (r : Fin 512) (l : Fin 256) : S1x16x32x256.Idx :=
  ix4 0 (⟨r % 16, Nat.mod_lt _ (by decide)⟩ : Fin 16) (⟨r / 16, by omega⟩ : Fin 32) l

open Cert.Kernel4Ideal in
/-- The two slots of an array in sixteen classes, joined along the lanes: every row of the tile, with its 256 lanes. -/
theorem join16 (X : Vec Ideal S1x16x32x256 .f32) (k k' : ℕ) (hk : k % 2 = 0) (hk' : k' % 2 = 1) (inb) (inb') (hs) (hs') (hc) :
    concatenate S512x256 1
      [⟨S512x128, shapeCast (s := S1x512x128) S512x128 (View.ld (nat16 X) (Rect.unit (s := S12x512x128) ![k, 0, 0] ![1, 512, 128] inb)) hs⟩,
        ⟨S512x128, shapeCast (s := S1x512x128) S512x128 (View.ld (nat16 X) (Rect.unit (s := S12x512x128) ![k', 0, 0] ![1, 512, 128] inb')) hs'⟩]
      hc
      = fun i : S512x256.Idx => X (at16 (i 0) (i 1)) := by
  funext i
  idx_vars i
  pointwise [nat16, pos16, at16]
  split_ifs <;> (congr 1; blk_ext [hk, hk'])

open Cert.Kernel4Ideal in
/-- One store of class `q`, of an array in four classes, into slot `k`: it is the slot's rows of that class. -/
theorem piece4 (X : Vec Ideal S1x4x128x256 .f32) (k q o : ℕ) (ho : o = k % 2 * 128) (hq : q < 4) (inb) (inb') (pos) (hs) (hs') (hs'') (x) :
    shapeCast S1x128x128 (extractStridedSlice S128x128 ![0, o] (shapeCast (s := S1x1x128x256) S128x256
        (View.ld X (Rect.unit (s := S1x4x128x256) ![0, q, 0, 0] ![1, 1, 128, 256] inb)) hs) hs') hs'' x
      = nat4 X (({ off := ![k, q, 0], size := ![1, 128, 128], stride := ![1, 4, 1], inb := inb', stride_pos := pos } : Rect S12x512x128).emb x) := by
  idx_vars x
  pointwise [nat4, pos4]
  congr 1
  blk_ext [ho]
  · show q = (q + 4 * (x1 : ℕ)) % 4
    omega
  · show (x1 : ℕ) = (q + 4 * (x1 : ℕ)) / 4
    omega
  · show k % 2 * 128 + (x2 : ℕ) = (k + 1 * (x0 : ℕ)) % 2 * 128 + (0 + 1 * (x2 : ℕ))
    omega

open Cert.Kernel4Ideal in
/-- One store of class `q`, of an array in sixteen classes, into slot `k`: it is the slot's rows of that class. -/
theorem piece16 (X : Vec Ideal S1x16x32x256 .f32) (k q o : ℕ) (ho : o = k % 2 * 128) (hq : q < 16) (inb) (inb') (pos) (hs) (hs') (hs'') (x) :
    shapeCast S1x32x128 (extractStridedSlice S32x128 ![0, o] (shapeCast (s := S1x1x32x256) S32x256
        (View.ld X (Rect.unit (s := S1x16x32x256) ![0, q, 0, 0] ![1, 1, 32, 256] inb)) hs) hs') hs'' x
      = nat16 X (({ off := ![k, q, 0], size := ![1, 32, 128], stride := ![1, 16, 1], inb := inb', stride_pos := pos } : Rect S12x512x128).emb x) := by
  idx_vars x
  pointwise [nat16, pos16]
  congr 1
  blk_ext [ho]
  · show q = (q + 16 * (x1 : ℕ)) % 16
    omega
  · show (x1 : ℕ) = (q + 16 * (x1 : ℕ)) / 16
    omega
  · show k % 2 * 128 + (x2 : ℕ) = (k + 1 * (x0 : ℕ)) % 2 * 128 + (0 + 1 * (x2 : ℕ))
    omega

end Cert.Proof.Merge

end
-- ==== Proof.Merge.lean ====
module

public import proofs.«01_k».proof.Proof.MergeSlots

@[expose] public section

set_option maxRecDepth 16384

noncomputable section

namespace Cert.Proof.Merge

open Idealize.ShloMosaic Idealize.ShloMosaic.TcCoe Idealize.SL.Sem
open Cert.Kernel4Ideal Cert.Kernel4Ideal.Gen

set_option maxHeartbeats 600000 in
/-- What the body leaves in the result's block, at one element, from the input blocks. -/
theorem block_apply (m : (ℓ : Loc nD τ sig) → Buf (Elt Ideal) ℓ) (c : Dev nD) (t : Fin cfg0.N) (r : Fin 512) (l : Fin 1024) :
    (dats (F := Ideal) m 0 c).after 14 t (ix2 r l)
      = mergeRow (iblk m c 0 t (ix2 r l)) (fun j => iblk m c 1 t (ix2 r j)) (fun j => iblk m c 2 t (ix2 r j))
          (fun j => Mix.mix (iblk m c 4 t (ix4 0 0 r j)) (iblk m c 6 t (at4 r j)) (iblk m c 8 t (at16 r j))
            (iblk m c 3 t (ix4 0 0 r j)) (iblk m c 5 t (at4 r j)) (iblk m c 7 t (at16 r j)))
          (fun k => iblk m c 9 t (ix2 r k)) (fun j k => iblk m c 10 t (ix2 j k)) (fun j k => iblk m c 11 t (ix2 j k))
          (fun j k => iblk m c 12 t (ix2 j k)) (fun k => iblk m c 13 t (ix2 k l)) := by
  rw [after0_14]
  unfold outsAt0
  frame_open
  simp (disch := decide) only [↓ View.readCov_skip, ↓ View.readCov_cons_toLoadRect]
  frame_out
  rw [Strided.slot _ _ 4 4 8 (by decide) inb_S12x512x128_S1x512x128_4_0_0 (nat4 (iblk m c 5 t)) ?p4 ?f4,
    Strided.slot _ _ 5 4 8 (by decide) inb_S12x512x128_S1x512x128_5_0_0 (nat4 (iblk m c 5 t)) ?p5 ?f5,
    Strided.slot _ _ 6 4 8 (by decide) inb_S12x512x128_S1x512x128_6_0_0 (nat4 (iblk m c 6 t)) ?p6 ?f6,
    Strided.slot _ _ 7 4 8 (by decide) inb_S12x512x128_S1x512x128_7_0_0 (nat4 (iblk m c 6 t)) ?p7 ?f7,
    Strided.slot _ _ 8 16 32 (by decide) inb_S12x512x128_S1x512x128_8_0_0 (nat16 (iblk m c 7 t)) ?p8 ?f8,
    Strided.slot _ _ 9 16 32 (by decide) inb_S12x512x128_S1x512x128_9_0_0 (nat16 (iblk m c 7 t)) ?p9 ?f9,
    Strided.slot _ _ 10 16 31 (by decide) inb_S12x512x128_S1x512x128_10_0_0 (nat16 (iblk m c 8 t)) ?p10 ?f10,
    Strided.slot _ _ 11 16 32 (by decide) inb_S12x512x128_S1x512x128_11_0_0 (nat16 (iblk m c 8 t)) ?p11 ?f11]
  · unfold_payloads
    simp only [join4 _ 4 5 rfl rfl, join4 _ 6 7 rfl rfl, join16 _ 8 9 rfl rfl, join16 _ 10 11 rfl rfl]
    pointwise [mergeRow, Mix.mix, Mix.total, Mix.part, gcol]
  case p4 | p5 | p6 | p7 =>
    simp only [List.take, View.PiecesOf, Memref.IsWhole.read_unread]
    repeat refine ⟨piece4 _ _ _ _ (by rfl) (by decide) _ _ _ _ _ _, ?_⟩
    trivial
  case p8 | p9 | p10 | p11 =>
    simp only [List.take, View.PiecesOf, Memref.IsWhole.read_unread]
    repeat refine ⟨piece16 _ _ _ _ (by rfl) (by decide) _ _ _ _ _ _, ?_⟩
    trivial
  all_goals rfl

/-- Which block each window is on at a grid point. -/
theorem idx (t : Fin cfg0.N) : win0_0.index t = ![(grid0.coords t 0).val, 0] ∧ win0_1.index t = ![(grid0.coords t 0).val, 0] ∧ win0_2.index t = ![(grid0.coords t 0).val, 0]
    ∧ win0_9.index t = ![(grid0.coords t 0).val, 0] ∧ win0_14.index t = ![(grid0.coords t 0).val, 0] ∧ win0_3.index t = ![(grid0.coords t 0).val, 0, 0, 0]
    ∧ win0_4.index t = ![(grid0.coords t 0).val, 0, 0, 0] ∧ win0_5.index t = ![(grid0.coords t 0).val, 0, 0, 0] ∧ win0_6.index t = ![(grid0.coords t 0).val, 0, 0, 0]
    ∧ win0_7.index t = ![(grid0.coords t 0).val, 0, 0, 0] ∧ win0_8.index t = ![(grid0.coords t 0).val, 0, 0, 0] ∧ win0_10.index t = ![0, 0]
    ∧ win0_11.index t = ![0, 0] ∧ win0_12.index t = ![0, 0] ∧ win0_13.index t = ![0, 0] :=
  (by decide +kernel : ∀ t : Fin grid0.N, win0_0.index t = ![(grid0.coords t 0).val, 0] ∧ win0_1.index t = ![(grid0.coords t 0).val, 0] ∧ win0_2.index t = ![(grid0.coords t 0).val, 0]
    ∧ win0_9.index t = ![(grid0.coords t 0).val, 0] ∧ win0_14.index t = ![(grid0.coords t 0).val, 0] ∧ win0_3.index t = ![(grid0.coords t 0).val, 0, 0, 0]
    ∧ win0_4.index t = ![(grid0.coords t 0).val, 0, 0, 0] ∧ win0_5.index t = ![(grid0.coords t 0).val, 0, 0, 0] ∧ win0_6.index t = ![(grid0.coords t 0).val, 0, 0, 0]
    ∧ win0_7.index t = ![(grid0.coords t 0).val, 0, 0, 0] ∧ win0_8.index t = ![(grid0.coords t 0).val, 0, 0, 0] ∧ win0_10.index t = ![0, 0]
    ∧ win0_11.index t = ![0, 0] ∧ win0_12.index t = ![0, 0] ∧ win0_13.index t = ![0, 0]) t

set_option maxHeartbeats 800000 in
/-- The array the kernel leaves, where the log-sum-exps are finite. -/
theorem final (m : (ℓ : Loc nD τ sig) → Buf (Elt Ideal) ℓ) (c : Dev nD)
    (hfin : ∀ r k, (∃ v : ℝ, (m (c.tc.loc main_arg4) (tok1 r k) : EReal) = (v : EReal)) ∧ (∃ v : ℝ, (m (c.tc.loc main_arg6) (tok4 r k) : EReal) = (v : EReal))
      ∧ ∃ v : ℝ, (m (c.tc.loc main_arg8) (tok16 r k) : EReal) = (v : EReal)) :
    (dats (F := Ideal) m 0 c).arrAt 14 cfg0.N
      = merged (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9))
        (m (c.tc.loc main_arg10)) (m (c.tc.loc main_arg11)) (m (c.tc.loc main_arg12)) (m (c.tc.loc main_arg13)) := by
  refine (dats (F := Ideal) m 0 c).arrAt_eq_of_covers 14 _ (by decide +kernel) fun t hf y => ?_
  blk_simp
  obtain ⟨e0, e1, e2, e9, e14, e3, e4, e5, e6, e7, e8, e10, e11, e12, e13⟩ := idx t
  idx_vars y
  rw [block_apply]
  unfold merged
  congr 1
  · funext j
    blk_ext [iblk, V, e1, e14]
  · funext j
    blk_ext [iblk, V, e2, e14]
  · funext j
    obtain ⟨⟨v0, h0⟩, ⟨v1, h1⟩, v2, h2⟩ := hfin ((win0_14.blk t).view.emb (ix2 y0 y1) 0) j
    rw [h0, h1, h2, ← Mix.mix_eq, ← h0, ← h1, ← h2]
    unfold tok1 tok4 tok16 at4 at16
    congr 1
    · blk_ext [iblk, V, e4, e14]
    · blk_ext [iblk, V, e6, e14]
    · blk_ext [iblk, V, e8, e14]
    · blk_ext [iblk, V, e3, e14]
    · blk_ext [iblk, V, e5, e14]
    · blk_ext [iblk, V, e7, e14]
  · funext k
    blk_ext [iblk, V, e9, e14]
  · funext j k
    blk_ext! [iblk, V, e10]
  · funext j k
    blk_ext! [iblk, V, e11]
  · funext j k
    blk_ext! [iblk, V, e12]
  · funext k
    blk_ext! [iblk, V, e13, e14]

end Cert.Proof.Merge

end
-- ==== Proof.lean ====
/-
  The proof of the claim: each part is proved in a module of its own under `Proof/` and gathered here.
-/
module

public import proofs.«01_k».proof.Defs
public import proofs.«01_k».proof.Proof.DsaRun
public import proofs.«01_k».proof.Proof.Ffn
public import proofs.«01_k».proof.Proof.Gate
public import proofs.«01_k».proof.Proof.HeadsFinal
public import proofs.«01_k».proof.Proof.HeadsFinite
public import proofs.«01_k».proof.Proof.Lse
public import proofs.«01_k».proof.Proof.Merge
public import proofs.«01_k».proof.Proof.Gen.Kernel
public import proofs.«01_k».proof.Proof.Gen.Kernel.Launch
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_lse_finite
public import proofs.«01_k».proof.Proof.Gen.Pre_qk_finite
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- The feed-forward call and its reference: from equal arguments, equal results. -/
theorem ffn_eq : Cert.algebraic_Kernel2Ideal_Reference2Ideal (hKernel2Ideal := Cert.Kernel2Ideal.Gen.facts)
    (hReference2Ideal := Cert.Reference2Ideal.Gen.facts) := by
  intro m g m' g' _ hargs
  refine ⟨_, (θ_run _ _ _).mono (fun r h c => ⟨(h c).1.trans (Ffn.final m c), (h c).2⟩)
    (Cert.Kernel2Ideal.Value.run_blocks (F := Ideal) m g), ?_⟩
  refine (θ_run _ _ _).mono (fun r h c => ⟨(h c).1.trans ?_, (h c).2⟩) (Ffn.ref_run m' g')
  obtain ⟨h0, h1, h2, h3⟩ := hargs c
  rw [h0, h1, h2, h3]

/-- The gates' projection and its reference: from equal arguments, equal results. -/
theorem gate_eq : Cert.algebraic_Kernel3Ideal_Reference3Ideal (hKernel3Ideal := Cert.Kernel3Ideal.Gen.facts)
    (hReference3Ideal := Cert.Reference3Ideal.Gen.facts) := by
  intro m g m' g' _ hargs
  refine ⟨_, (θ_run _ _ _).mono (fun r h c => ⟨(h c).1.trans (Gate.final m c), (h c).2⟩)
    (Cert.Kernel3Ideal.Value.run_blocks (F := Ideal) m g), ?_⟩
  refine (θ_run _ _ _).mono (fun r h c => ⟨(h c).1.trans ?_, (h c).2⟩) (Gate.ref_run m' g')
  obtain ⟨h0, h1, h2⟩ := hargs c
  rw [h0, h1, h2]

/-- The merge and its reference: from equal arguments with finite log-sum-exps, equal results. -/
theorem merge_eq : Cert.algebraic_Kernel4Ideal_Reference4Ideal_pre_lse_finite (hKernel4Ideal := Cert.Kernel4Ideal.Gen.facts)
    (hReference4Ideal := Cert.Reference4Ideal.Gen.facts) (hPre_lse_finite := Cert.Pre_lse_finite.Gen.facts) := by
  intro m g m' g' hpre hargs
  refine ⟨_, (θ_run _ _ _).mono (fun r h c => ⟨(h c).1.trans (Merge.final m c (Merge.finite _ _ _ _ _ _ _ _ _ _ _ _ _ _ (hpre c))), (h c).2⟩)
    (Cert.Kernel4Ideal.Value.run_blocks (F := Ideal) m g), ?_⟩
  refine (θ_run _ _ _).mono (fun r h c => ⟨(h c).1.trans ?_, (h c).2⟩) (Merge.ref_run m' g')
  obtain ⟨h0, h1, h2, h3, h4, h5, h6, h7, h8, h9, h10, h11, h12, h13⟩ := hargs c
  rw [h0, h1, h2, h3, h4, h5, h6, h7, h8, h9, h10, h11, h12, h13]

/-- The frame of the merge's reference. -/
theorem merge_ref_frame : Cert.quiescent_Reference4Ideal (hReference4Ideal := Cert.Reference4Ideal.Gen.facts) :=
  fun m ρ _ => (θ_run _ _ _).mono (fun r h => ⟨fun c => (h c).2, sem_eq_zero_of_no_sems (by decide) _⟩) (Merge.ref_run m ρ)

/-- The projection with a norm for each head and its reference: from equal arguments with finite queries and keys, equal results. -/
theorem heads_eq : Cert.algebraic_Kernel5Ideal_Reference5Ideal_pre_qk_finite (hKernel5Ideal := Cert.Kernel5Ideal.Gen.facts)
    (hReference5Ideal := Cert.Reference5Ideal.Gen.facts) (hPre_qk_finite := Cert.Pre_qk_finite.Gen.facts) := by
  intro m g m' g' hpre hargs
  have hfin (c) : Heads.Finite m c := fun r h p hp d => Heads.finite _ _ _ _ (hpre c) r h p hp d
  refine ⟨_, _, _, (θ_run _ _ _).mono (fun r h c => ⟨(h c).1.trans (Heads.final9 m c (hfin c)), (h c).2.1.trans (Heads.final10 m c (hfin c)),
      (h c).2.2.1.trans (Heads.final11 m c (hfin c)), (h c).2.2.2⟩) (Cert.Kernel5Ideal.Value.run_blocks (F := Ideal) m g), ?_⟩
  refine (θ_run _ _ _).mono (fun r h c => ⟨(h c).1.trans ?_, (h c).2.1.trans ?_, (h c).2.2.1.trans ?_, (h c).2.2.2⟩) (Heads.ref_run m' g')
  all_goals
    obtain ⟨h0, h1, h2, h3⟩ := hargs c
    rw [h0, h1, h2, h3]

/-- The frame of that projection's reference. -/
theorem heads_ref_frame : Cert.quiescent_Reference5Ideal (hReference5Ideal := Cert.Reference5Ideal.Gen.facts) :=
  fun m ρ _ => (θ_run _ _ _).mono (fun r h => ⟨fun c => (h c).2.2.2, sem_eq_zero_of_no_sems (by decide) _⟩) (Heads.ref_run m ρ)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Pre_lse_finite.Gen.facts, Cert.Pre_qk_finite.Gen.facts,
    fun m ρ _ => Dsa.frame m ρ,
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) _⟩) (Ffn.ref_run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems (by decide) _⟩) (Gate.ref_run m ρ),
    fun m ρ _ => Cert.Kernel4.Gen.frame m ρ, fun m ρ _ => Cert.Kernel4Ideal.Gen.frame m ρ,
    fun m ρ _ => Cert.Kernel4Ideal.Gen.frame m ρ, merge_ref_frame, fun m ρ _ => merge_ref_frame m ρ trivial,
    fun m ρ _ => Cert.Kernel5.Gen.frame m ρ, fun m ρ _ => Cert.Kernel5Ideal.Gen.frame m ρ,
    fun m ρ _ => Cert.Kernel5Ideal.Gen.frame m ρ, heads_ref_frame, fun m ρ _ => heads_ref_frame m ρ trivial,
    trivial, ffn_eq, trivial, gate_eq, trivial, merge_eq, trivial, heads_eq⟩

end Cert.Proof

end
